-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E38AA3B#32 (((Real.log 256)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)) (v4 : (c : Dev Cert.KernelIdeal.nD) → Buf (Elt Ideal) ((c.tc : Thread Cert.KernelIdeal.nD Cert.KernelIdeal.τ).loc Cert.KernelIdeal.main_v21_4)) (v5 : (c : Dev Cert.KernelIdeal.nD) → Buf (Elt Ideal) ((c.tc : Thread Cert.KernelIdeal.nD Cert.KernelIdeal.τ).loc Cert.KernelIdeal.main_v21_5)) (v6 : (c : Dev Cert.KernelIdeal.nD) → Buf (Elt Ideal) ((c.tc : Thread Cert.KernelIdeal.nD Cert.KernelIdeal.τ).loc Cert.KernelIdeal.main_v21_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_v21_4) = v4 c
          ∧ r.2.mem ((c.tc : Thread Cert.KernelIdeal.nD Cert.KernelIdeal.τ).loc Cert.KernelIdeal.main_v21_5) = v5 c
          ∧ r.2.mem ((c.tc : Thread Cert.KernelIdeal.nD Cert.KernelIdeal.τ).loc Cert.KernelIdeal.main_v21_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v75) = v4 c
          ∧ r.2.mem ((c.tc : Thread Cert.ReferenceIdeal.nD Cert.ReferenceIdeal.τ).loc Cert.ReferenceIdeal.main_v76) = v5 c
          ∧ r.2.mem ((c.tc : Thread Cert.ReferenceIdeal.nD Cert.ReferenceIdeal.τ).loc Cert.ReferenceIdeal.main_v77) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v106) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  IdealRules.named_const.Statement Cert.Kernel3Ideal.κ "qscale" .f32 0x3E38AA3B#32 (((Real.log 256)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v161) = v0 c
          ∧ r.2.mem ((c.tc : Thread Cert.Reference3Ideal.nD Cert.Reference3Ideal.τ).loc Cert.Reference3Ideal.main_v165) = v1 c
          ∧ r.2.mem ((c.tc : Thread Cert.Reference3Ideal.nD Cert.Reference3Ideal.τ).loc Cert.Reference3Ideal.main_v169) = v2 c
          ∧ r.2.mem ((c.tc : Thread Cert.Reference3Ideal.nD Cert.Reference3Ideal.τ).loc Cert.Reference3Ideal.main_v170) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S16x2048x16x64 : Shape := ⟨4, ![16, 2048, 16, 64]⟩
abbrev S16x2048x2x64 : Shape := ⟨4, ![16, 2048, 2, 64]⟩
abbrev S16 : Shape := ⟨1, ![16]⟩
abbrev S1024x7936 : Shape := ⟨2, ![1024, 7936]⟩
abbrev S1024x1024 : Shape := ⟨2, ![1024, 1024]⟩
abbrev S512x1024 : Shape := ⟨2, ![512, 1024]⟩
abbrev S1024x5632 : Shape := ⟨2, ![1024, 5632]⟩
abbrev S2816x1024 : Shape := ⟨2, ![2816, 1024]⟩
abbrev S16x2048x1024 : Shape := ⟨3, ![16, 2048, 1024]⟩
abbrev S16x2048x1x64 : Shape := ⟨4, ![16, 2048, 1, 64]⟩
abbrev S16x2048x64 : Shape := ⟨3, ![16, 2048, 64]⟩
abbrev S16x2048x256 : Shape := ⟨3, ![16, 2048, 256]⟩
abbrev S1024x2048 : Shape := ⟨2, ![1024, 2048]⟩
abbrev S1x2048x1024 : Shape := ⟨3, ![1, 2048, 1024]⟩
abbrev S1x2048x256 : Shape := ⟨3, ![1, 2048, 256]⟩
abbrev S64x7936 : Shape := ⟨2, ![64, 7936]⟩
abbrev S64x1024 : Shape := ⟨2, ![64, 1024]⟩
abbrev S32x1024 : Shape := ⟨2, ![32, 1024]⟩
abbrev S64x5632 : Shape := ⟨2, ![64, 5632]⟩
abbrev S176x1024 : Shape := ⟨2, ![176, 1024]⟩
abbrev S64x2048 : Shape := ⟨2, ![64, 2048]⟩
abbrev S1x128 : Shape := ⟨2, ![1, 128]⟩
abbrev S128x128 : Shape := ⟨2, ![128, 128]⟩
abbrev S512x128 : Shape := ⟨2, ![512, 128]⟩
abbrev S1x128x128 : Shape := ⟨3, ![1, 128, 128]⟩
abbrev S256x128 : Shape := ⟨2, ![256, 128]⟩
abbrev S1 : Shape := ⟨1, ![1]⟩
abbrev S512x256 : Shape := ⟨2, ![512, 256]⟩
abbrev S128 : Shape := ⟨1, ![128]⟩
abbrev S128x1 : Shape := ⟨2, ![128, 1]⟩
abbrev S256x256 : Shape := ⟨2, ![256, 256]⟩
abbrev S128x256 : Shape := ⟨2, ![128, 256]⟩

abbrev nBuf : Space → Nat
  | .hbm => 38
  | .vmem => 32
  | .smem => 1
  | _ => 0

abbrev bufTy : (tb : Table) → Fin (tcTables nBuf tb) → BufTy
  | .hbm, ⟨0, _⟩ => ⟨S16x2048x16x64, .f32⟩
  | .hbm, ⟨1, _⟩ => ⟨S16x2048x2x64, .f32⟩
  | .hbm, ⟨2, _⟩ => ⟨S16x2048x2x64, .f32⟩
  | .hbm, ⟨3, _⟩ => ⟨S16, .f32⟩
  | .hbm, ⟨4, _⟩ => ⟨S1024x7936, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1024x5632, .f32⟩
  | .hbm, ⟨9, _⟩ => ⟨S2816x1024, .f32⟩
  | .hbm, ⟨10, _⟩ => ⟨S16x2048x1024, .f32⟩
  | .hbm, ⟨11, _⟩ => ⟨S16x2048x1x64, .f32⟩
  | .hbm, ⟨12, _⟩ => ⟨S16x2048x64, .f32⟩
  | .hbm, ⟨13, _⟩ => ⟨S16x2048x1x64, .f32⟩
  | .hbm, ⟨14, _⟩ => ⟨S16x2048x64, .f32⟩
  | .hbm, ⟨15, _⟩ => ⟨S16x2048x1x64, .f32⟩
  | .hbm, ⟨16, _⟩ => ⟨S16x2048x64, .f32⟩
  | .hbm, ⟨17, _⟩ => ⟨S16x2048x1x64, .f32⟩
  | .hbm, ⟨18, _⟩ => ⟨S16x2048x64, .f32⟩
  | .hbm, ⟨19, _⟩ => ⟨S16x2048x256, .f32⟩
  | .hbm, ⟨20, _⟩ => ⟨S16x2048x256, .bf16⟩
  | .hbm, ⟨21, _⟩ => ⟨S16x2048x1x64, .f32⟩
  | .hbm, ⟨22, _⟩ => ⟨S16x2048x64, .f32⟩
  | .hbm, ⟨23, _⟩ => ⟨S16x2048x1x64, .f32⟩
  | .hbm, ⟨24, _⟩ => ⟨S16x2048x64, .f32⟩
  | .hbm, ⟨25, _⟩ => ⟨S16x2048x1x64, .f32⟩
  | .hbm, ⟨26, _⟩ => ⟨S16x2048x64, .f32⟩
  | .hbm, ⟨27, _⟩ => ⟨S16x2048x1x64, .f32⟩
  | .hbm, ⟨28, _⟩ => ⟨S16x2048x64, .f32⟩
  | .hbm, ⟨29, _⟩ => ⟨S16x2048x256, .f32⟩
  | .hbm, ⟨30, _⟩ => ⟨S16x2048x256, .bf16⟩
  | .hbm, ⟨31, _⟩ => ⟨S16x2048x1024, .bf16⟩
  | .hbm, ⟨32, _⟩ => ⟨S1024x2048, .bf16⟩
  | .hbm, ⟨33, _⟩ => ⟨S1024x1024, .bf16⟩
  | .hbm, ⟨34, _⟩ => ⟨S512x1024, .bf16⟩
  | .hbm, ⟨35, _⟩ => ⟨S1024x1024, .bf16⟩
  | .hbm, ⟨36, _⟩ => ⟨S1024x5632, .bf16⟩
  | .hbm, ⟨37, _⟩ => ⟨S2816x1024, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S64x7936, .f32⟩
  | .local _ .vmem, ⟨7, _⟩ => ⟨S64x7936, .f32⟩
  | .local _ .vmem, ⟨8, _⟩ => ⟨S64x1024, .f32⟩
  | .local _ .vmem, ⟨9, _⟩ => ⟨S64x1024, .f32⟩
  | .local _ .vmem, ⟨10, _⟩ => ⟨S32x1024, .f32⟩
  | .local _ .vmem, ⟨11, _⟩ => ⟨S32x1024, .f32⟩
  | .local _ .vmem, ⟨12, _⟩ => ⟨S64x1024, .f32⟩
  | .local _ .vmem, ⟨13, _⟩ => ⟨S64x1024, .f32⟩
  | .local _ .vmem, ⟨14, _⟩ => ⟨S64x5632, .f32⟩
  | .local _ .vmem, ⟨15, _⟩ => ⟨S64x5632, .f32⟩
  | .local _ .vmem, ⟨16, _⟩ => ⟨S176x1024, .f32⟩
  | .local _ .vmem, ⟨17, _⟩ => ⟨S176x1024, .f32⟩
  | .local _ .vmem, ⟨18, _⟩ => ⟨S1x2048x1024, .bf16⟩
  | .local _ .vmem, ⟨19, _⟩ => ⟨S1x2048x1024, .bf16⟩
  | .local _ .vmem, ⟨20, _⟩ => ⟨S64x2048, .bf16⟩
  | .local _ .vmem, ⟨21, _⟩ => ⟨S64x2048, .bf16⟩
  | .local _ .vmem, ⟨22, _⟩ => ⟨S64x1024, .bf16⟩
  | .local _ .vmem, ⟨23, _⟩ => ⟨S64x1024, .bf16⟩
  | .local _ .vmem, ⟨24, _⟩ => ⟨S32x1024, .bf16⟩
  | .local _ .vmem, ⟨25, _⟩ => ⟨S32x1024, .bf16⟩
  | .local _ .vmem, ⟨26, _⟩ => ⟨S64x1024, .bf16⟩
  | .local _ .vmem, ⟨27, _⟩ => ⟨S64x1024, .bf16⟩
  | .local _ .vmem, ⟨28, _⟩ => ⟨S64x5632, .bf16⟩
  | .local _ .vmem, ⟨29, _⟩ => ⟨S64x5632, .bf16⟩
  | .local _ .vmem, ⟨30, _⟩ => ⟨S176x1024, .bf16⟩
  | .local _ .vmem, ⟨31, _⟩ => ⟨S176x1024, .bf16⟩
  | .local _ .smem, ⟨0, _⟩ => ⟨S16, .f32⟩
  | _, _ => ⟨S16x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev main_v21_5 : Ref sig .tc := ⟨.hbm, 36, rfl⟩
abbrev main_v21_6 : Ref sig .tc := ⟨.hbm, 37, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x7936 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "qscale" => some (((Real.log 256)⁻¹ : ℝ) : EReal)
  | _ => none
-- ==== ReferenceIdeal.lean ====
abbrev S16x2048x16x64 : Shape := ⟨4, ![16, 2048, 16, 64]⟩
abbrev S16x2048x2x64 : Shape := ⟨4, ![16, 2048, 2, 64]⟩
abbrev S16 : Shape := ⟨1, ![16]⟩
abbrev S1024x7936 : Shape := ⟨2, ![1024, 7936]⟩
abbrev S1024x1024 : Shape := ⟨2, ![1024, 1024]⟩
abbrev S512x1024 : Shape := ⟨2, ![512, 1024]⟩
abbrev S1024x5632 : Shape := ⟨2, ![1024, 5632]⟩
abbrev S2816x1024 : Shape := ⟨2, ![2816, 1024]⟩
abbrev S16x2048x2x8x64 : Shape := ⟨5, ![16, 2048, 2, 8, 64]⟩
abbrev S_ : Shape := ⟨0, ![]⟩
abbrev S16x2176x2x64 : Shape := ⟨4, ![16, 2176, 2, 64]⟩
abbrev S16x16x128x2x8x64 : Shape := ⟨6, ![16, 16, 128, 2, 8, 64]⟩
abbrev S16x17x128x2x64 : Shape := ⟨5, ![16, 17, 128, 2, 64]⟩
abbrev S16x16x128x2x64 : Shape := ⟨5, ![16, 16, 128, 2, 64]⟩
abbrev S16x16x256x2x64 : Shape := ⟨5, ![16, 16, 256, 2, 64]⟩
abbrev S16x16x2x256x128x8 : Shape := ⟨6, ![16, 16, 2, 256, 128, 8]⟩
abbrev S16x16x2x8x128x256 : Shape := ⟨6, ![16, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S16x16x2x8x128 : Shape := ⟨5, ![16, 16, 2, 8, 128]⟩
abbrev S2x8 : Shape := ⟨2, ![2, 8]⟩
abbrev S1x1x2x8x1 : Shape := ⟨5, ![1, 1, 2, 8, 1]⟩
abbrev S16x16x2x8x128x1 : Shape := ⟨6, ![16, 16, 2, 8, 128, 1]⟩
abbrev S16x16x2x64x8x128 : Shape := ⟨6, ![16, 16, 2, 64, 8, 128]⟩
abbrev S16x16x128x2x8 : Shape := ⟨5, ![16, 16, 128, 2, 8]⟩
abbrev S16x16x128x2x8x1 : Shape := ⟨6, ![16, 16, 128, 2, 8, 1]⟩
abbrev S16x2048x1024 : Shape := ⟨3, ![16, 2048, 1024]⟩
abbrev S1024x2048 : Shape := ⟨2, ![1024, 2048]⟩

abbrev nBuf : Space → Nat
  | .hbm => 105
  | .vmem => 0
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x2x64, .f32⟩
  | .hbm, ⟨2, _⟩ => ⟨S16x2048x2x64, .f32⟩
  | .hbm, ⟨3, _⟩ => ⟨S16, .f32⟩
  | .hbm, ⟨4, _⟩ => ⟨S1024x7936, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1024x5632, .f32⟩
  | .hbm, ⟨9, _⟩ => ⟨S2816x1024, .f32⟩
  | .hbm, ⟨10, _⟩ => ⟨S16x2048x2x8x64, .f32⟩
  | .hbm, ⟨11, _⟩ => ⟨S_, .i32⟩
  | .hbm, ⟨12, _⟩ => ⟨S_, .f32⟩
  | .hbm, ⟨13, _⟩ => ⟨S16x2176x2x64, .f32⟩
  | .hbm, ⟨14, _⟩ => ⟨S_, .i32⟩
  | .hbm, ⟨15, _⟩ => ⟨S_, .f32⟩
  | .hbm, ⟨16, _⟩ => ⟨S16x2176x2x64, .f32⟩
  | .hbm, ⟨17, _⟩ => ⟨S16x16x128x2x8x64, .f32⟩
  | .hbm, ⟨18, _⟩ => ⟨S16x17x128x2x64, .f32⟩
  | .hbm, ⟨19, _⟩ => ⟨S16x17x128x2x64, .f32⟩
  | .hbm, ⟨20, _⟩ => ⟨S16x16x128x2x64, .f32⟩
  | .hbm, ⟨21, _⟩ => ⟨S16x16x128x2x64, .f32⟩
  | .hbm, ⟨22, _⟩ => ⟨S16x16x256x2x64, .f32⟩
  | .hbm, ⟨23, _⟩ => ⟨S16x16x128x2x64, .f32⟩
  | .hbm, ⟨24, _⟩ => ⟨S16x16x128x2x64, .f32⟩
  | .hbm, ⟨25, _⟩ => ⟨S16x16x256x2x64, .f32⟩
  | .hbm, ⟨26, _⟩ => ⟨S16x16x2x256x128x8, .f32⟩
  | .hbm, ⟨27, _⟩ => ⟨S16x16x2x8x128x256, .f32⟩
  | .hbm, ⟨28, _⟩ => ⟨S_, .f32⟩
  | .hbm, ⟨29, _⟩ => ⟨S16x16x2x8x128x256, .f32⟩
  | .hbm, ⟨30, _⟩ => ⟨S16x16x2x8x128x256, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S16, .i32⟩
  | .hbm, ⟨42, _⟩ => ⟨S16x1x1, .i32⟩
  | .hbm, ⟨43, _⟩ => ⟨S_, .i32⟩
  | .hbm, ⟨44, _⟩ => ⟨S16x1x1, .i32⟩
  | .hbm, ⟨45, _⟩ => ⟨S16x1x1, .i32⟩
  | .hbm, ⟨46, _⟩ => ⟨S1x1x256, .i32⟩
  | .hbm, ⟨47, _⟩ => ⟨S16x1x256, .i32⟩
  | .hbm, ⟨48, _⟩ => ⟨S16x1x256, .i32⟩
  | .hbm, ⟨49, _⟩ => ⟨S16x1x256, .i32⟩
  | .hbm, ⟨50, _⟩ => ⟨S_, .i32⟩
  | .hbm, ⟨51, _⟩ => ⟨S16x1x256, .i32⟩
  | .hbm, ⟨52, _⟩ => ⟨S16x1x256, .i32⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S_, .i32⟩
  | .hbm, ⟨57, _⟩ => ⟨S128x256, .i32⟩
  | .hbm, ⟨58, _⟩ => ⟨S128x256, .i1⟩
  | .hbm, ⟨59, _⟩ => ⟨S128x256, .i1⟩
  | .hbm, ⟨60, _⟩ => ⟨S_, .i32⟩
  | .hbm, ⟨61, _⟩ => ⟨S16x1x256, .i32⟩
  | .hbm, ⟨62, _⟩ => ⟨S16x1x256, .i1⟩
  | .hbm, ⟨63, _⟩ => ⟨S1x128x256, .i1⟩
  | .hbm, ⟨64, _⟩ => ⟨S16x128x256, .i1⟩
  | .hbm, ⟨65, _⟩ => ⟨S16x128x256, .i1⟩
  | .hbm, ⟨66, _⟩ => ⟨S16x128x256, .i1⟩
  | .hbm, ⟨67, _⟩ => ⟨S1x16x1x1x128x256, .i1⟩
  | .hbm, ⟨68, _⟩ => ⟨S_, .f32⟩
  | .hbm, ⟨69, _⟩ => ⟨S_, .f32⟩
  | .hbm, ⟨70, _⟩ => ⟨S16x16x2x8x128x256, .i1⟩
  | .hbm, ⟨71, _⟩ => ⟨S16x16x2x8x128x256, .f32⟩
  | .hbm, ⟨72, _⟩ => ⟨S16x16x2x8x128x256, .f32⟩
  | .hbm, ⟨73, _⟩ => ⟨S_, .f32⟩
  | .hbm, ⟨74, _⟩ => ⟨S16x16x2x8x128, .f32⟩
  | .hbm, ⟨75, _⟩ => ⟨S2x8, .f32⟩
  | .hbm, ⟨76, _⟩ => ⟨S1x1x2x8x1, .f32⟩
  | .hbm, ⟨77, _⟩ => ⟨S16x16x2x8x128, .f32⟩
  | .hbm, ⟨78, _⟩ => ⟨S16x16x2x8x128, .f32⟩
  | .hbm, ⟨79, _⟩ => ⟨S16x16x2x8x128x1, .f32⟩
  | .hbm, ⟨80, _⟩ => ⟨S16x16x2x8x128x256, .f32⟩
  | .hbm, ⟨81, _⟩ => ⟨S16x16x2x8x128x256, .f32⟩
  | .hbm, ⟨82, _⟩ => ⟨S16x16x2x8x128x256, .f32⟩
  | .hbm, ⟨83, _⟩ => ⟨S_, .f32⟩
  | .hbm, ⟨84, _⟩ => ⟨S16x16x2x8x128, .f32⟩
  | .hbm, ⟨85, _⟩ => ⟨S16x16x2x8x128, .f32⟩
  | .hbm, ⟨86, _⟩ => ⟨S16x16x2x8x128, .f32⟩
  | .hbm, ⟨87, _⟩ => ⟨S16x16x2x8x128, .f32⟩
  | .hbm, ⟨88, _⟩ => ⟨S16x16x2x8x128, .f32⟩
  | .hbm, ⟨89, _⟩ => ⟨S16x16x2x64x8x128, .f32⟩
  | .hbm, ⟨90, _⟩ => ⟨S16x16x128x2x8x64, .f32⟩
  | .hbm, ⟨91, _⟩ => ⟨S16x16x128x2x8, .f32⟩
  | .hbm, ⟨92, _⟩ => ⟨S16x16x128x2x8x1, .f32⟩
  | .hbm, ⟨93, _⟩ => ⟨S16x16x128x2x8x64, .f32⟩
  | .hbm, ⟨94, _⟩ => ⟨S16x16x128x2x8x64, .f32⟩
  | .hbm, ⟨95, _⟩ => ⟨S16x2048x2x8x64, .f32⟩
  | .hbm, ⟨96, _⟩ => ⟨S16x2048x1024, .f32⟩
  | .hbm, ⟨97, _⟩ => ⟨S16x2048x1024, .bf16⟩
  | .hbm, ⟨98, _⟩ => ⟨S1024x2048, .f32⟩
  | .hbm, ⟨99, _⟩ => ⟨S1024x2048, .bf16⟩
  | .hbm, ⟨100, _⟩ => ⟨S1024x1024, .bf16⟩
  | .hbm, ⟨101, _⟩ => ⟨S512x1024, .bf16⟩
  | .hbm, ⟨102, _⟩ => ⟨S1024x1024, .bf16⟩
  | .hbm, ⟨103, _⟩ => ⟨S1024x5632, .bf16⟩
  | .hbm, ⟨104, _⟩ => ⟨S2816x1024, .bf16⟩
  | _, _ => ⟨S16x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_3 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x512 : Shape := ⟨3, ![16, 2048, 512]⟩
abbrev S16x6144 : Shape := ⟨2, ![16, 6144]⟩
abbrev S1024x7936 : Shape := ⟨2, ![1024, 7936]⟩
abbrev S1024x1024 : Shape := ⟨2, ![1024, 1024]⟩
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S16x1x6144 : Shape := ⟨3, ![16, 1, 6144]⟩
abbrev S1024x2048 : Shape := ⟨2, ![1024, 2048]⟩
abbrev S1x1024 : Shape := ⟨2, ![1, 1024]⟩
abbrev S1x1024x1024 : Shape := ⟨3, ![1, 1024, 1024]⟩
abbrev S1x1024x512 : Shape := ⟨3, ![1, 1024, 512]⟩
abbrev S1x1x1024 : Shape := ⟨3, ![1, 1, 1024]⟩
abbrev S1x512x1024 : Shape := ⟨3, ![1, 512, 1024]⟩
abbrev S1x512x512 : Shape := ⟨3, ![1, 512, 512]⟩
abbrev S512x512 : Shape := ⟨2, ![512, 512]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S512x2816 : Shape := ⟨2, ![512, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1x256x1024 : Shape := ⟨3, ![1, 256, 1024]⟩

abbrev nBuf : Space → Nat
  | .hbm => 27
  | .vmem => 30
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S16x2048x512, .bf16⟩
  | .hbm, ⟨3, _⟩ => ⟨S16x6144, .f32⟩
  | .hbm, ⟨4, _⟩ => ⟨S1024x7936, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S1024, .f32⟩
  | .hbm, ⟨14, _⟩ => ⟨S16x1x6144, .f32⟩
  | .hbm, ⟨15, _⟩ => ⟨S1024x2048, .f32⟩
  | .hbm, ⟨16, _⟩ => ⟨S1024x2048, .bf16⟩
  | .hbm, ⟨17, _⟩ => ⟨S1024x1024, .bf16⟩
  | .hbm, ⟨18, _⟩ => ⟨S512x1024, .bf16⟩
  | .hbm, ⟨19, _⟩ => ⟨S1024x1024, .bf16⟩
  | .hbm, ⟨20, _⟩ => ⟨S1024x5632, .bf16⟩
  | .hbm, ⟨21, _⟩ => ⟨S2816x1024, .bf16⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1024x2048, .bf16⟩
  | .local _ .vmem, ⟨23, _⟩ => ⟨S1024x1024, .bf16⟩
  | .local _ .vmem, ⟨24, _⟩ => ⟨S512x1024, .bf16⟩
  | .local _ .vmem, ⟨25, _⟩ => ⟨S1024x1024, .bf16⟩
  | .local _ .vmem, ⟨26, _⟩ => ⟨S1024x5632, .bf16⟩
  | .local _ .vmem, ⟨27, _⟩ => ⟨S2816x1024, .bf16⟩
  | .local _ .vmem, ⟨28, _⟩ => ⟨S1x1024x1024, .f32⟩
  | .local _ .vmem, ⟨29, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, v53.toNat, c0_i32_23.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, v53.toNat, c0_i32_23.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, v53.toNat, c0_i32_23.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c1_i32_11 : BitVec 32 := 1#32
  let c0_i32_12 : BitVec 32 := 0#32
  ![v16.toNat, c0_i32_10.toNat, c1_i32_11.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c2_i32_11 : BitVec 32 := 2#32
  let c0_i32_12 : BitVec 32 := 0#32
  ![v16.toNat, c0_i32_10.toNat, c2_i32_11.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c3_i32 : BitVec 32 := 3#32
  let c0_i32_11 : BitVec 32 := 0#32
  ![v16.toNat, c0_i32_10.toNat, c3_i32.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c4_i32 : BitVec 32 := 4#32
  let c0_i32_11 : BitVec 32 := 0#32
  ![v16.toNat, c0_i32_10.toNat, c4_i32.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c5_i32 : BitVec 32 := 5#32
  let c0_i32_11 : BitVec 32 := 0#32
  ![v16.toNat, c0_i32_10.toNat, c5_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, v53.toNat, c0_i32_23.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x5632 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x1024x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S16x2048x1024 : Shape := ⟨3, ![16, 2048, 1024]⟩
abbrev S16x2048x512 : Shape := ⟨3, ![16, 2048, 512]⟩
abbrev S16x6144 : Shape := ⟨2, ![16, 6144]⟩
abbrev S1024x7936 : Shape := ⟨2, ![1024, 7936]⟩
abbrev S1024x1024 : Shape := ⟨2, ![1024, 1024]⟩
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S16x1x6144 : Shape := ⟨3, ![16, 1, 6144]⟩
abbrev S16x1x1024 : Shape := ⟨3, ![16, 1, 1024]⟩
abbrev S_ : Shape := ⟨0, ![]⟩
abbrev S1024x2048 : Shape := ⟨2, ![1024, 2048]⟩
abbrev S16x2048x2048 : Shape := ⟨3, ![16, 2048, 2048]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩

abbrev nBuf : Space → Nat
  | .hbm => 149
  | .vmem => 0
  | .smem => 0
  | _ => 0

abbrev hbmTy0_0 (i : Nat) : BufTy := match i % 128 with
  | 0 => ⟨S16x2048x1024, .f32⟩
  | 1 => ⟨S16x2048x1024, .bf16⟩
  | 2 => ⟨S16x2048x512, .bf16⟩
  | 3 => ⟨S16x6144, .f32⟩
  | 4 => ⟨S1024x7936, .f32⟩
  | 5 => ⟨S1024x1024, .f32⟩
  | 6 => ⟨S512x1024, .f32⟩
  | 7 => ⟨S1024x1024, .f32⟩
  | 8 => ⟨S1024, .f32⟩
  | 9 => ⟨S1024, .f32⟩
  | 10 => ⟨S1024x5632, .f32⟩
  | 11 => ⟨S2816x1024, .f32⟩
  | 12 => ⟨S1024, .f32⟩
  | 13 => ⟨S1024, .f32⟩
  | 14 => ⟨S16x1x6144, .f32⟩
  | 15 => ⟨S16x1x1024, .f32⟩
  | 16 => ⟨S16x1x1024, .f32⟩
  | 17 => ⟨S16x1x1024, .f32⟩
  | 18 => ⟨S16x1x1024, .f32⟩
  | 19 => ⟨S16x1x1024, .f32⟩
  | 20 => ⟨S16x1x1024, .f32⟩
  | 21 => ⟨S_, .f32⟩
  | 22 => ⟨S16x1x1024, .f32⟩
  | 23 => ⟨S16x1x1024, .f32⟩
  | 24 => ⟨S16x2048x1024, .f32⟩
  | 25 => ⟨S16x2048x1024, .f32⟩
  | 26 => ⟨S16x2048x1024, .f32⟩
  | 27 => ⟨S16x2048x1024, .f32⟩
  | 28 => ⟨S1024x2048, .f32⟩
  | 29 => ⟨S16x2048x2048, .f32⟩
  | 30 => ⟨S16x2048x1024, .f32⟩
  | 31 => ⟨S16x2048x1024, .f32⟩
  | 32 => ⟨S16x2048x1024, .f32⟩
  | 33 => ⟨S16x2048x1024, .f32⟩
  | 34 => ⟨S16x2048x512, .f32⟩
  | 35 => ⟨S16x2048x1024, .f32⟩
  | 36 => ⟨S16x2048x1024, .f32⟩
  | 37 => ⟨S16x2048x1024, .f32⟩
  | 38 => ⟨S_, .f32⟩
  | 39 => ⟨S16x2048x1024, .f32⟩
  | 40 => ⟨S16x2048x1024, .f32⟩
  | 41 => ⟨S_, .f32⟩
  | 42 => ⟨S16x2048x1024, .f32⟩
  | 43 => ⟨S16x2048x1024, .f32⟩
  | 44 => ⟨S16x2048x1024, .f32⟩
  | 45 => ⟨S16x2048x1024, .f32⟩
  | 46 => ⟨S16x2048x1024, .f32⟩
  | 47 => ⟨S_, .f32⟩
  | 48 => ⟨S16x2048x1024, .f32⟩
  | 49 => ⟨S16x2048x1024, .f32⟩
  | 50 => ⟨S_, .f32⟩
  | 51 => ⟨S16x2048x1024, .f32⟩
  | 52 => ⟨S16x2048x1024, .f32⟩
  | 53 => ⟨S16x2048x1024, .f32⟩
  | 54 => ⟨S16x2048x1024, .f32⟩
  | 55 => ⟨S16x2048x1024, .f32⟩
  | 56 => ⟨S_, .f32⟩
  | 57 => ⟨S16x2048x1024, .f32⟩
  | 58 => ⟨S16x2048x1024, .f32⟩
  | 59 => ⟨S_, .f32⟩
  | 60 => ⟨S16x1x1024, .f32⟩
  | 61 => ⟨S16x1x1024, .f32⟩
  | 62 => ⟨S16x2048x1024, .f32⟩
  | 63 => ⟨S16x2048x1024, .f32⟩
  | 64 => ⟨S16x2048x1024, .f32⟩
  | 65 => ⟨S_, .f32⟩
  | 66 => ⟨S16x2048, .f32⟩
  | 67 => ⟨S16x2048x1, .f32⟩
  | 68 => ⟨S_, .f32⟩
  | 69 => ⟨S16x2048x1, .f32⟩
  | 70 => ⟨S16x2048x1, .f32⟩
  | 71 => ⟨S16x2048x1024, .f32⟩
  | 72 => ⟨S16x2048x1024, .f32⟩
  | 73 => ⟨S16x2048x1024, .f32⟩
  | 74 => ⟨S_, .f32⟩
  | 75 => ⟨S16x2048, .f32⟩
  | 76 => ⟨S16x2048x1, .f32⟩
  | 77 => ⟨S_, .f32⟩
  | 78 => ⟨S16x2048x1, .f32⟩
  | 79 => ⟨S16x2048x1, .f32⟩
  | 80 => ⟨S_, .f32⟩
  | 81 => ⟨S16x2048x1, .f32⟩
  | 82 => ⟨S16x2048x1, .f32⟩
  | 83 => ⟨S16x2048x1, .f32⟩
  | 84 => ⟨S16x2048x1024, .f32⟩
  | 85 => ⟨S16x2048x1024, .f32⟩
  | 86 => ⟨S1x1x1024, .f32⟩
  | 87 => ⟨S16x2048x1024, .f32⟩
  | 88 => ⟨S16x2048x1024, .f32⟩
  | 89 => ⟨S1x1x1024, .f32⟩
  | 90 => ⟨S16x2048x1024, .f32⟩
  | 91 => ⟨S16x2048x1024, .f32⟩
  | 92 => ⟨S_, .f32⟩
  | 93 => ⟨S16x1x1024, .f32⟩
  | 94 => ⟨S16x1x1024, .f32⟩
  | 95 => ⟨S16x2048x1024, .f32⟩
  | 96 => ⟨S16x2048x1024, .f32⟩
  | 97 => ⟨S16x2048x1024, .f32⟩
  | 98 => ⟨S16x2048x1024, .f32⟩
  | 99 => ⟨S16x2048x5632, .f32⟩
  | 100 => ⟨S16x2048x2816, .f32⟩
  | 101 => ⟨S16x2048x2816, .f32⟩
  | 102 => ⟨S16x2048x2816, .f32⟩
  | 103 => ⟨S16x2048x2816, .f32⟩
  | 104 => ⟨S_, .f32⟩
  | 105 => ⟨S16x2048x2816, .f32⟩
  | 106 => ⟨S16x2048x2816, .f32⟩
  | 107 => ⟨S_, .f32⟩
  | 108 => ⟨S16x2048x2816, .f32⟩
  | 109 => ⟨S16x2048x2816, .f32⟩
  | 110 => ⟨S16x2048x2816, .f32⟩
  | 111 => ⟨S16x2048x2816, .f32⟩
  | 112 => ⟨S16x2048x1024, .f32⟩
  | 113 => ⟨S_, .f32⟩
  | 114 => ⟨S16x2048x1024, .f32⟩
  | 115 => ⟨S16x2048x1024, .f32⟩
  | 116 => ⟨S_, .f32⟩
  | 117 => ⟨S16x1x1024, .f32⟩
  | 118 => ⟨S16x1x1024, .f32⟩
  | 119 => ⟨S16x2048x1024, .f32⟩
  | 120 => ⟨S16x2048x1024, .f32⟩
  | 121 => ⟨S16x2048x1024, .f32⟩
  | 122 => ⟨S_, .f32⟩
  | 123 => ⟨S16x2048, .f32⟩
  | 124 => ⟨S16x2048x1, .f32⟩
  | 125 => ⟨S_, .f32⟩
  | 126 => ⟨S16x2048x1, .f32⟩
  | 127 => ⟨S16x2048x1, .f32⟩
  | _ => ⟨S16x2048x1024, .f32⟩

abbrev hbmTy0_1 (i : Nat) : BufTy := match i % 128 with
  | 0 => ⟨S16x2048x1024, .f32⟩
  | 1 => ⟨S16x2048x1024, .f32⟩
  | 2 => ⟨S16x2048x1024, .f32⟩
  | 3 => ⟨S_, .f32⟩
  | 4 => ⟨S16x2048, .f32⟩
  | 5 => ⟨S16x2048x1, .f32⟩
  | 6 => ⟨S_, .f32⟩
  | 7 => ⟨S16x2048x1, .f32⟩
  | 8 => ⟨S16x2048x1, .f32⟩
  | 9 => ⟨S_, .f32⟩
  | 10 => ⟨S16x2048x1, .f32⟩
  | 11 => ⟨S16x2048x1, .f32⟩
  | 12 => ⟨S16x2048x1, .f32⟩
  | 13 => ⟨S16x2048x1024, .f32⟩
  | 14 => ⟨S16x2048x1024, .f32⟩
  | 15 => ⟨S1x1x1024, .f32⟩
  | 16 => ⟨S16x2048x1024, .f32⟩
  | 17 => ⟨S16x2048x1024, .f32⟩
  | 18 => ⟨S1x1x1024, .f32⟩
  | 19 => ⟨S16x2048x1024, .f32⟩
  | 20 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call0_v0 : Ref sig .tc := ⟨.hbm, 102, rfl⟩
abbrev main_call0_v1 : Ref sig .tc := ⟨.hbm, 103, rfl⟩
abbrev main_call0_cst : Ref sig .tc := ⟨.hbm, 104, rfl⟩
abbrev main_call0_v2 : Ref sig .tc := ⟨.hbm, 105, rfl⟩
abbrev main_call0_v3 : Ref sig .tc := ⟨.hbm, 106, rfl⟩
abbrev main_call0_cst_0 : Ref sig .tc := ⟨.hbm, 107, rfl⟩
abbrev main_call0_v4 : Ref sig .tc := ⟨.hbm, 108, rfl⟩
abbrev main_call0_v5 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_12 : Ref sig .tc := ⟨.hbm, 113, rfl⟩
abbrev main_v78 : Ref sig .tc := ⟨.hbm, 114, rfl⟩
abbrev main_v79 : Ref sig .tc := ⟨.hbm, 115, rfl⟩
abbrev main_cst_13 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_14 : Ref sig .tc := ⟨.hbm, 122, rfl⟩
abbrev main_v85 : Ref sig .tc := ⟨.hbm, 123, rfl⟩
abbrev main_v86 : Ref sig .tc := ⟨.hbm, 124, rfl⟩
abbrev main_cst_15 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_16 : Ref sig .tc := ⟨.hbm, 131, rfl⟩
abbrev main_v92 : Ref sig .tc := ⟨.hbm, 132, rfl⟩
abbrev main_v93 : Ref sig .tc := ⟨.hbm, 133, rfl⟩
abbrev main_cst_17 : Ref sig .tc := ⟨.hbm, 134, rfl⟩
abbrev main_v94 : Ref sig .tc := ⟨.hbm, 135, rfl⟩
abbrev main_v95 : Ref sig .tc := ⟨.hbm, 136, rfl⟩
abbrev main_cst_18 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x6144 : Shape := ⟨2, ![16, 6144]⟩
abbrev S16x2048 : Shape := ⟨2, ![16, 2048]⟩
abbrev S1024x7936 : Shape := ⟨2, ![1024, 7936]⟩
abbrev S16x1x6144 : Shape := ⟨3, ![16, 1, 6144]⟩
abbrev S1024x5888 : Shape := ⟨2, ![1024, 5888]⟩
abbrev S32 : Shape := ⟨1, ![32]⟩
abbrev S_ : Shape := ⟨0, ![]⟩
abbrev S16x1x2048 : Shape := ⟨3, ![16, 1, 2048]⟩
abbrev S32x1 : Shape := ⟨2, ![32, 1]⟩
abbrev S16x2048x256 : Shape := ⟨3, ![16, 2048, 256]⟩
abbrev S16x2048x1536 : Shape := ⟨3, ![16, 2048, 1536]⟩
abbrev S16x4x512x1536 : Shape := ⟨4, ![16, 4, 512, 1536]⟩
abbrev S16x16x128x1536 : Shape := ⟨4, ![16, 16, 128, 1536]⟩
abbrev S1x1024x1024 : Shape := ⟨3, ![1, 1024, 1024]⟩
abbrev S1x1x1024 : Shape := ⟨3, ![1, 1, 1024]⟩
abbrev S1x1024x256 : Shape := ⟨3, ![1, 1024, 256]⟩
abbrev S1x1024x1536 : Shape := ⟨3, ![1, 1024, 1536]⟩
abbrev S1x4x256x1536 : Shape := ⟨4, ![1, 4, 256, 1536]⟩
abbrev S1x16x64x1536 : Shape := ⟨4, ![1, 16, 64, 1536]⟩
abbrev S8x1024x128 : Shape := ⟨3, ![8, 1024, 128]⟩
abbrev S1024x128 : Shape := ⟨2, ![1024, 128]⟩
abbrev S512x128 : Shape := ⟨2, ![512, 128]⟩
abbrev S1x1024 : Shape := ⟨2, ![1, 1024]⟩
abbrev S1x512x1024 : Shape := ⟨3, ![1, 512, 1024]⟩
abbrev S512x1024 : Shape := ⟨2, ![512, 1024]⟩
abbrev S1x512x128 : Shape := ⟨3, ![1, 512, 128]⟩
abbrev S1x1x512 : Shape := ⟨3, ![1, 1, 512]⟩
abbrev S1x512 : Shape := ⟨2, ![1, 512]⟩
abbrev S32x512 : Shape := ⟨2, ![32, 512]⟩
abbrev S128x512 : Shape := ⟨2, ![128, 512]⟩
abbrev S1x128x128 : Shape := ⟨3, ![1, 128, 128]⟩
abbrev S128x128 : Shape := ⟨2, ![128, 128]⟩
abbrev S128x1024 : Shape := ⟨2, ![128, 1024]⟩
abbrev S1x32x128 : Shape := ⟨3, ![1, 32, 128]⟩
abbrev S32x128 : Shape := ⟨2, ![32, 128]⟩
abbrev S32x1024 : Shape := ⟨2, ![32, 1024]⟩
abbrev S1024x512 : Shape := ⟨2, ![1024, 512]⟩
abbrev S512x512 : Shape := ⟨2, ![512, 512]⟩
abbrev S1x512x512 : Shape := ⟨3, ![1, 512, 512]⟩
abbrev S1024x256 : Shape := ⟨2, ![1024, 256]⟩
abbrev S512x256 : Shape := ⟨2, ![512, 256]⟩
abbrev S1x512x256 : Shape := ⟨3, ![1, 512, 256]⟩
abbrev S1x1x128x512 : Shape := ⟨4, ![1, 1, 128, 512]⟩
abbrev S1x1x32x512 : Shape := ⟨4, ![1, 1, 32, 512]⟩

abbrev nBuf : Space → Nat
  | .hbm => 24
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S16x2048, .i32⟩
  | .hbm, ⟨3, _⟩ => ⟨S1024x7936, .f32⟩
  | .hbm, ⟨4, _⟩ => ⟨S16x1x6144, .f32⟩
  | .hbm, ⟨5, _⟩ => ⟨S1024x5888, .f32⟩
  | .hbm, ⟨6, _⟩ => ⟨S1024x5888, .bf16⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S16x2048, .f32⟩
  | .hbm, ⟨16, _⟩ => ⟨S16x1x2048, .f32⟩
  | .hbm, ⟨17, _⟩ => ⟨S32x1, .f32⟩
  | .hbm, ⟨18, _⟩ => ⟨S16x2048x1024, .bf16⟩
  | .hbm, ⟨19, _⟩ => ⟨S16x2048x256, .bf16⟩
  | .hbm, ⟨20, _⟩ => ⟨S16x2048x256, .bf16⟩
  | .hbm, ⟨21, _⟩ => ⟨S16x2048x1536, .bf16⟩
  | .hbm, ⟨22, _⟩ => ⟨S16x4x512x1536, .bf16⟩
  | .hbm, ⟨23, _⟩ => ⟨S16x16x128x1536, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S32x1, .f32⟩
  | .local _ .vmem, ⟨9, _⟩ => ⟨S1024x5888, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x1536, .bf16⟩
  | .local _ .vmem, ⟨17, _⟩ => ⟨S1x1024x1536, .bf16⟩
  | .local _ .vmem, ⟨18, _⟩ => ⟨S1x4x256x1536, .bf16⟩
  | .local _ .vmem, ⟨19, _⟩ => ⟨S1x4x256x1536, .bf16⟩
  | .local _ .vmem, ⟨20, _⟩ => ⟨S1x16x64x1536, .bf16⟩
  | .local _ .vmem, ⟨21, _⟩ => ⟨S1x16x64x1536, .bf16⟩
  | .local _ .vmem, ⟨22, _⟩ => ⟨S8x1024x128, .f32⟩
  | .local _ .vmem, ⟨23, _⟩ => ⟨S1024x128, .f32⟩
  | .local _ .vmem, ⟨24, _⟩ => ⟨S1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev main_v12_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, v53.toNat, c0_i32_23.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c1_i32_11 : BitVec 32 := 1#32
  let c0_i32_12 : BitVec 32 := 0#32
  ![v16.toNat, c0_i32_10.toNat, c1_i32_11.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, c0_i32_23.toNat, v53.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, v53.toNat, c0_i32_23.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, v53.toNat, c0_i32_23.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, v53.toNat, c0_i32_23.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, v53.toNat, c0_i32_23.toNat]

def cc0_transform_10 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  let c0_i32_25 : BitVec 32 := 0#32
  ![v16.toNat, c0_i32_23.toNat, v53.toNat, c0_i32_24.toNat]

def cc0_transform_11 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  let c0_i32_25 : BitVec 32 := 0#32
  ![v16.toNat, c0_i32_23.toNat, v53.toNat, c0_i32_24.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5888 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x256x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x64x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
variable {F : FTy → Type} [FloatOps F] [Named F]
def κ : String → Option EReal := fun
  | "qscale" => some (((Real.log 256)⁻¹ : ℝ) : EReal)
  | _ => none
-- ==== Reference3Ideal.lean ====
abbrev S16x2048x1024 : Shape := ⟨3, ![16, 2048, 1024]⟩
abbrev S16x6144 : Shape := ⟨2, ![16, 6144]⟩
abbrev S16x2048 : Shape := ⟨2, ![16, 2048]⟩
abbrev S1024x7936 : Shape := ⟨2, ![1024, 7936]⟩
abbrev S16x1x6144 : Shape := ⟨3, ![16, 1, 6144]⟩
abbrev S16x1x1024 : Shape := ⟨3, ![16, 1, 1024]⟩
abbrev S_ : Shape := ⟨0, ![]⟩
abbrev S16x2048x7936 : Shape := ⟨3, ![16, 2048, 7936]⟩
abbrev S16x2048x5888 : Shape := ⟨3, ![16, 2048, 5888]⟩
abbrev S16x2048x128 : Shape := ⟨3, ![16, 2048, 128]⟩
abbrev S16x2048x1536 : Shape := ⟨3, ![16, 2048, 1536]⟩
abbrev S16x2048x16x64 : Shape := ⟨4, ![16, 2048, 16, 64]⟩
abbrev S32 : Shape := ⟨1, ![32]⟩
abbrev S16x2048x1 : Shape := ⟨3, ![16, 2048, 1]⟩
abbrev S1x1x32 : Shape := ⟨3, ![1, 1, 32]⟩
abbrev S16x2048x32 : Shape := ⟨3, ![16, 2048, 32]⟩
abbrev S16x2048x1x32 : Shape := ⟨4, ![16, 2048, 1, 32]⟩
abbrev S16x2048x16x32 : Shape := ⟨4, ![16, 2048, 16, 32]⟩
abbrev S16x2048x2x64 : Shape := ⟨4, ![16, 2048, 2, 64]⟩
abbrev S16x2048x2x32 : Shape := ⟨4, ![16, 2048, 2, 32]⟩
abbrev S16x2048x24x64 : Shape := ⟨4, ![16, 2048, 24, 64]⟩
abbrev S16x2048x24x32 : Shape := ⟨4, ![16, 2048, 24, 32]⟩
abbrev S16x2048x8x64 : Shape := ⟨4, ![16, 2048, 8, 64]⟩
abbrev S16x2048x512 : Shape := ⟨3, ![16, 2048, 512]⟩
abbrev S16x2048x2x2x64 : Shape := ⟨5, ![16, 2048, 2, 2, 64]⟩
abbrev S16x2048x4x64 : Shape := ⟨4, ![16, 2048, 4, 64]⟩
abbrev S16x2048x256 : Shape := ⟨3, ![16, 2048, 256]⟩

abbrev nBuf : Space → Nat
  | .hbm => 188
  | .vmem => 0
  | .smem => 0
  | _ => 0

abbrev hbmTy0_0 (i : Nat) : BufTy := match i % 128 with
  | 0 => ⟨S16x2048x1024, .f32⟩
  | 1 => ⟨S16x6144, .f32⟩
  | 2 => ⟨S16x2048, .i32⟩
  | 3 => ⟨S1024x7936, .f32⟩
  | 4 => ⟨S16x1x6144, .f32⟩
  | 5 => ⟨S16x1x1024, .f32⟩
  | 6 => ⟨S16x1x1024, .f32⟩
  | 7 => ⟨S16x1x1024, .f32⟩
  | 8 => ⟨S16x1x1024, .f32⟩
  | 9 => ⟨S16x1x1024, .f32⟩
  | 10 => ⟨S16x1x1024, .f32⟩
  | 11 => ⟨S_, .f32⟩
  | 12 => ⟨S16x1x1024, .f32⟩
  | 13 => ⟨S16x1x1024, .f32⟩
  | 14 => ⟨S16x2048x1024, .f32⟩
  | 15 => ⟨S16x2048x1024, .f32⟩
  | 16 => ⟨S16x2048x1024, .f32⟩
  | 17 => ⟨S16x2048x1024, .f32⟩
  | 18 => ⟨S16x2048x7936, .f32⟩
  | 19 => ⟨S16x2048x5888, .f32⟩
  | 20 => ⟨S16x2048x1024, .f32⟩
  | 21 => ⟨S16x2048x128, .f32⟩
  | 22 => ⟨S16x2048x128, .f32⟩
  | 23 => ⟨S16x2048x1536, .f32⟩
  | 24 => ⟨S16x2048x1536, .f32⟩
  | 25 => ⟨S16x2048x1536, .f32⟩
  | 26 => ⟨S16x2048x16x64, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S16x2048, .f32⟩
  | 36 => ⟨S16x2048x1, .f32⟩
  | 37 => ⟨S1x1x32, .f32⟩
  | 38 => ⟨S16x2048x32, .f32⟩
  | 39 => ⟨S16x2048x32, .f32⟩
  | 40 => ⟨S16x2048x32, .f32⟩
  | 41 => ⟨S16x2048x32, .f32⟩
  | 42 => ⟨S16x2048x1x32, .f32⟩
  | 43 => ⟨S16x2048x32, .f32⟩
  | 44 => ⟨S16x2048x1x32, .f32⟩
  | 45 => ⟨S16x2048x16x32, .f32⟩
  | 46 => ⟨S16x2048x16x32, .f32⟩
  | 47 => ⟨S16x2048x16x32, .f32⟩
  | 48 => ⟨S16x2048x16x32, .f32⟩
  | 49 => ⟨S16x2048x16x32, .f32⟩
  | 50 => ⟨S16x2048x16x32, .f32⟩
  | 51 => ⟨S16x2048x16x32, .f32⟩
  | 52 => ⟨S16x2048x16x32, .f32⟩
  | 53 => ⟨S16x2048x16x32, .f32⟩
  | 54 => ⟨S16x2048x16x32, .f32⟩
  | 55 => ⟨S16x2048x16x32, .f32⟩
  | 56 => ⟨S16x2048x16x32, .f32⟩
  | 57 => ⟨S16x2048x16x64, .f32⟩
  | 58 => ⟨S_, .f32⟩
  | 59 => ⟨S16x2048x16x64, .f32⟩
  | 60 => ⟨S16x2048x16x64, .f32⟩
  | 61 => ⟨S_, .f32⟩
  | 62 => ⟨S_, .f32⟩
  | 63 => ⟨S16x2048x16x64, .f32⟩
  | 64 => ⟨S16x2048x16x64, .f32⟩
  | 65 => ⟨S16x2048x2x64, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S16x2048, .f32⟩
  | 75 => ⟨S16x2048x1, .f32⟩
  | 76 => ⟨S1x1x32, .f32⟩
  | 77 => ⟨S16x2048x32, .f32⟩
  | 78 => ⟨S16x2048x32, .f32⟩
  | 79 => ⟨S16x2048x32, .f32⟩
  | 80 => ⟨S16x2048x32, .f32⟩
  | 81 => ⟨S16x2048x1x32, .f32⟩
  | 82 => ⟨S16x2048x32, .f32⟩
  | 83 => ⟨S16x2048x1x32, .f32⟩
  | 84 => ⟨S16x2048x2x32, .f32⟩
  | 85 => ⟨S16x2048x2x32, .f32⟩
  | 86 => ⟨S16x2048x2x32, .f32⟩
  | 87 => ⟨S16x2048x2x32, .f32⟩
  | 88 => ⟨S16x2048x2x32, .f32⟩
  | 89 => ⟨S16x2048x2x32, .f32⟩
  | 90 => ⟨S16x2048x2x32, .f32⟩
  | 91 => ⟨S16x2048x2x32, .f32⟩
  | 92 => ⟨S16x2048x2x32, .f32⟩
  | 93 => ⟨S16x2048x2x32, .f32⟩
  | 94 => ⟨S16x2048x2x32, .f32⟩
  | 95 => ⟨S16x2048x2x32, .f32⟩
  | 96 => ⟨S16x2048x2x64, .f32⟩
  | 97 => ⟨S16x2048x2x64, .f32⟩
  | 98 => ⟨S16x2048x24x64, .f32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S16x2048, .f32⟩
  | 108 => ⟨S16x2048x1, .f32⟩
  | 109 => ⟨S1x1x32, .f32⟩
  | 110 => ⟨S16x2048x32, .f32⟩
  | 111 => ⟨S16x2048x32, .f32⟩
  | 112 => ⟨S16x2048x32, .f32⟩
  | 113 => ⟨S16x2048x32, .f32⟩
  | 114 => ⟨S16x2048x1x32, .f32⟩
  | 115 => ⟨S16x2048x32, .f32⟩
  | 116 => ⟨S16x2048x1x32, .f32⟩
  | 117 => ⟨S16x2048x24x32, .f32⟩
  | 118 => ⟨S16x2048x24x32, .f32⟩
  | 119 => ⟨S16x2048x24x32, .f32⟩
  | 120 => ⟨S16x2048x24x32, .f32⟩
  | 121 => ⟨S16x2048x24x32, .f32⟩
  | 122 => ⟨S16x2048x24x32, .f32⟩
  | 123 => ⟨S16x2048x24x32, .f32⟩
  | 124 => ⟨S16x2048x24x32, .f32⟩
  | 125 => ⟨S16x2048x24x32, .f32⟩
  | 126 => ⟨S16x2048x24x32, .f32⟩
  | 127 => ⟨S16x2048x24x32, .f32⟩
  | _ => ⟨S16x2048x1024, .f32⟩

abbrev hbmTy0_1 (i : Nat) : BufTy := match i % 128 with
  | 0 => ⟨S16x2048x24x32, .f32⟩
  | 1 => ⟨S16x2048x24x64, .f32⟩
  | 2 => ⟨S_, .f32⟩
  | 3 => ⟨S16x2048x24x64, .f32⟩
  | 4 => ⟨S16x2048x24x64, .f32⟩
  | 5 => ⟨S_, .f32⟩
  | 6 => ⟨S_, .f32⟩
  | 7 => ⟨S16x2048x24x64, .f32⟩
  | 8 => ⟨S16x2048x24x64, .f32⟩
  | 9 => ⟨S16x2048x24x64, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S16x2048, .f32⟩
  | 19 => ⟨S16x2048x1, .f32⟩
  | 20 => ⟨S1x1x32, .f32⟩
  | 21 => ⟨S16x2048x32, .f32⟩
  | 22 => ⟨S16x2048x32, .f32⟩
  | 23 => ⟨S16x2048x32, .f32⟩
  | 24 => ⟨S16x2048x32, .f32⟩
  | 25 => ⟨S16x2048x1x32, .f32⟩
  | 26 => ⟨S16x2048x32, .f32⟩
  | 27 => ⟨S16x2048x1x32, .f32⟩
  | 28 => ⟨S16x2048x24x32, .f32⟩
  | 29 => ⟨S16x2048x24x32, .f32⟩
  | 30 => ⟨S16x2048x24x32, .f32⟩
  | 31 => ⟨S16x2048x24x32, .f32⟩
  | 32 => ⟨S16x2048x24x32, .f32⟩
  | 33 => ⟨S16x2048x24x32, .f32⟩
  | 34 => ⟨S16x2048x24x32, .f32⟩
  | 35 => ⟨S16x2048x24x32, .f32⟩
  | 36 => ⟨S16x2048x24x32, .f32⟩
  | 37 => ⟨S16x2048x24x32, .f32⟩
  | 38 => ⟨S16x2048x24x32, .f32⟩
  | 39 => ⟨S16x2048x24x32, .f32⟩
  | 40 => ⟨S16x2048x24x64, .f32⟩
  | 41 => ⟨S16x2048x24x64, .f32⟩
  | 42 => ⟨S16x2048x8x64, .f32⟩
  | 43 => ⟨S16x2048x512, .f32⟩
  | 44 => ⟨S16x2048x8x64, .f32⟩
  | 45 => ⟨S16x2048x512, .f32⟩
  | 46 => ⟨S16x2048x8x64, .f32⟩
  | 47 => ⟨S16x2048x512, .f32⟩
  | 48 => ⟨S16x2048x1536, .f32⟩
  | 49 => ⟨S16x2048x1024, .f32⟩
  | 50 => ⟨S16x2048x1024, .bf16⟩
  | 51 => ⟨S16x2048x2x2x64, .f32⟩
  | 52 => ⟨S16x2048x4x64, .f32⟩
  | 53 => ⟨S16x2048x256, .f32⟩
  | 54 => ⟨S16x2048x256, .bf16⟩
  | 55 => ⟨S16x2048x2x2x64, .f32⟩
  | 56 => ⟨S16x2048x4x64, .f32⟩
  | 57 => ⟨S16x2048x256, .f32⟩
  | 58 => ⟨S16x2048x256, .bf16⟩
  | 59 => ⟨S16x2048x1536, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_2 : Ref sig .tc := ⟨.hbm, 58, rfl⟩
abbrev main_v51 : Ref sig .tc := ⟨.hbm, 59, rfl⟩
abbrev main_v52 : Ref sig .tc := ⟨.hbm, 60, rfl⟩
abbrev main_cst_3 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_4 : Ref sig .tc := ⟨.hbm, 68, rfl⟩
abbrev main_v59 : Ref sig .tc := ⟨.hbm, 69, rfl⟩
abbrev main_v60 : Ref sig .tc := ⟨.hbm, 70, rfl⟩
abbrev main_cst_5 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_6 : Ref sig .tc := ⟨.hbm, 101, rfl⟩
abbrev main_v90 : Ref sig .tc := ⟨.hbm, 102, rfl⟩
abbrev main_v91 : Ref sig .tc := ⟨.hbm, 103, rfl⟩
abbrev main_cst_7 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_cst_8 : Ref sig .tc := ⟨.hbm, 130, rfl⟩
abbrev main_v117 : Ref sig .tc := ⟨.hbm, 131, rfl⟩
abbrev main_v118 : Ref sig .tc := ⟨.hbm, 132, rfl⟩
abbrev main_cst_9 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_cst_10 : Ref sig .tc := ⟨.hbm, 140, rfl⟩
abbrev main_v125 : Ref sig .tc := ⟨.hbm, 141, rfl⟩
abbrev main_v126 : Ref sig .tc := ⟨.hbm, 142, rfl⟩
abbrev main_cst_11 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩

abbrev nD : Nat := 1
abbrev τ : Topo := Topo.v7x

variable {F : FTy → Type} [FloatOps F]
-- ==== Proof.AttnMath.lean ====
module

public import Idealize.ShloMosaic.Lib.Pointwise

/-! Attention of one query over a window of keys, over the extended reals: the plain softmax with a sink, and the same in
base two over the two halves of the window folded into one. -/
set_option maxRecDepth 16384
@[expose] public noncomputable section
open Idealize.ShloMosaic
namespace Cert.Attn

/-- The base change of the exponential, `1 / log 2`. -/
def lg : ℝ := (Real.log 2)⁻¹

theorem lg_pos : 0 < lg := inv_pos.2 (Real.log_pos (by norm_num))

/-- `1 / log 256` is an eighth of `1 / log 2`. -/
theorem scale_eq : (Real.log 256)⁻¹ = lg * 0.125 := by
  have h : Real.log 256 = 8 * Real.log 2 := by
    rw [show (256 : ℝ) = 2 ^ 8 by norm_num, Real.log_pow]; norm_num
  rw [h, lg, mul_inv]; ring

/-- Two to the power of a rescaled number is the exponential. -/
theorem exp2_lg (x : EReal) : Ideal.exp2 ((lg : EReal) * x) = Ideal.exp x := by
  induction x with
  | bot => rw [EReal.coe_mul_bot_of_pos lg_pos]; rfl
  | top => rw [EReal.coe_mul_top_of_pos lg_pos]; rfl
  | coe r =>
    rw [← EReal.coe_mul]
    show ((Real.rpow 2 (lg * r) : ℝ) : EReal) = ((Real.exp r : ℝ) : EReal)
    congr 1
    show (2 : ℝ) ^ (lg * r) = _
    rw [Real.rpow_def_of_pos (by norm_num), lg, ← mul_assoc, mul_inv_cancel₀ (ne_of_gt (Real.log_pos (by norm_num))), one_mul]

/-- Rescaling by a positive number distributes over a difference. -/
theorem lg_sub (a b : EReal) : (lg : EReal) * a - (lg : EReal) * b = (lg : EReal) * (a - b) := by
  have h0 : (0 : EReal) ≤ (lg : EReal) := by exact_mod_cast lg_pos.le
  rw [sub_eq_add_neg, sub_eq_add_neg, EReal.left_distrib_of_nonneg_of_ne_top h0 (EReal.coe_ne_top _), mul_neg]

/-- Rescaling by a positive number distributes over a maximum. -/
theorem lg_max (a b : EReal) : max ((lg : EReal) * a) ((lg : EReal) * b) = (lg : EReal) * max a b := by
  have h0 : (0 : EReal) ≤ (lg : EReal) := by exact_mod_cast lg_pos.le
  rcases le_total a b with h | h
  · rw [max_eq_right h, max_eq_right (mul_le_mul_of_nonneg_left h h0)]
  · rw [max_eq_left h, max_eq_left (mul_le_mul_of_nonneg_left h h0)]

/-- Rescaling by a nonnegative number distributes over a sum. -/
theorem mul_sum_coe {ι : Type} [DecidableEq ι] (c : ℝ) (h : 0 ≤ c) (s : Finset ι) (f : ι → EReal) :
    ∑ i ∈ s, (c : EReal) * f i = (c : EReal) * ∑ i ∈ s, f i := by
  have h0 : (0 : EReal) ≤ (c : EReal) := by exact_mod_cast h
  induction s using Finset.induction_on with
  | empty => simp
  | insert a s ha ih => rw [Finset.sum_insert ha, Finset.sum_insert ha, ih, EReal.left_distrib_of_nonneg_of_ne_top h0 (EReal.coe_ne_top _)]

/-- The greatest of a row. -/
def rowMax {n : ℕ} (f : Fin n → EReal) : EReal := Finset.univ.fold max ⊥ f

theorem rowMax_eq {n : ℕ} (f : Fin n → EReal) : rowMax f = Finset.univ.sup f := rfl

/-- The greatest of a rescaled row. -/
theorem rowMax_lg {n : ℕ} (f : Fin n → EReal) : rowMax (fun i => (lg : EReal) * f i) = (lg : EReal) * rowMax f := by
  have h := Finset.fold_hom (op := max) (op' := max) (m := fun x => (lg : EReal) * x) (b := ⊥) (s := Finset.univ) (f := f) (fun x y => (lg_max x y).symm)
  simp only [EReal.coe_mul_bot_of_pos lg_pos] at h
  exact h

/-- The greatest of a row of greater ones is the greater of the two rows' greatest. -/
theorem rowMax_max {n : ℕ} (f g : Fin n → EReal) : rowMax (fun i => max (f i) (g i)) = max (rowMax f) (rowMax g) := by
  rw [rowMax_eq, rowMax_eq, rowMax_eq]
  exact Finset.sup_sup

/-- The greatest of a row of two halves. -/
theorem rowMax_halves (f : Fin 256 → EReal) :
    rowMax f = max (rowMax fun c : Fin 128 => f ⟨c, by omega⟩) (rowMax fun c : Fin 128 => f ⟨128 + c, by omega⟩) := by
  rw [rowMax_eq, rowMax_eq, rowMax_eq]
  refine le_antisymm (Finset.sup_le fun i _ => ?_) (max_le (Finset.sup_le fun c _ => ?_) (Finset.sup_le fun c _ => ?_))
  · by_cases h : (i : ℕ) < 128
    · exact le_max_of_le_left (Finset.le_sup (f := fun c : Fin 128 => f ⟨c, by omega⟩) (b := ⟨i, h⟩) (Finset.mem_univ _))
    · have e : i = (⟨128 + (⟨(i : ℕ) - 128, by omega⟩ : Fin 128), by show 128 + ((i : ℕ) - 128) < 256; omega⟩ : Fin 256) := Fin.ext (by show (i : ℕ) = 128 + ((i : ℕ) - 128); omega)
      exact le_max_of_le_right ((congrArg f e).le.trans (Finset.le_sup (f := fun c : Fin 128 => f ⟨128 + c, by omega⟩) (b := ⟨(i : ℕ) - 128, by omega⟩) (Finset.mem_univ _)))
  · exact Finset.le_sup (f := f) (Finset.mem_univ _)
  · exact Finset.le_sup (f := f) (Finset.mem_univ _)

/-- A sum over two halves. -/
theorem sum_halves (f : Fin 256 → EReal) :
    ∑ i, f i = ∑ c : Fin 128, f ⟨c, by omega⟩ + ∑ c : Fin 128, f ⟨128 + c, by omega⟩ :=
  Fin.sum_univ_add (a := 128) (b := 128) f

/-- The softmax with a sink over a window of two halves: `sp`, `sc` the scores and `vp`, `vc` the values' column. -/
def sinkHead (sp sc vp vc : Fin 128 → EReal) (sk : EReal) : EReal :=
  Ideal.div (∑ c, Ideal.exp (sp c - max (max (rowMax sp) (rowMax sc)) sk) * vp c + ∑ c, Ideal.exp (sc c - max (max (rowMax sp) (rowMax sc)) sk) * vc c)
    ((∑ c, Ideal.exp (sp c - max (max (rowMax sp) (rowMax sc)) sk) + ∑ c, Ideal.exp (sc c - max (max (rowMax sp) (rowMax sc)) sk))
      + Ideal.exp (sk - max (max (rowMax sp) (rowMax sc)) sk))

/-- The same in base two over ONE row `g` of scores, each a key of one half: `t` marks the second half's keys, `n` the first's. -/
def foldHead (g t n vp vc : Fin 128 → EReal) (sk : EReal) : EReal :=
  Ideal.div (∑ c, Ideal.exp2 (g c - max (rowMax g) sk) * n c * vp c + ∑ c, Ideal.exp2 (g c - max (rowMax g) sk) * t c * vc c)
    ((∑ c, Ideal.exp2 (g c - max (rowMax g) sk) * n c + ∑ c, Ideal.exp2 (g c - max (rowMax g) sk) * t c)
      + Ideal.exp2 (sk - max (rowMax g) sk))

/-- Folding the two halves into one row changes nothing when each key of the window has its own place. -/
theorem fold_eq (P : Fin 128 → Prop) [DecidablePred P] (g t n f sp sc vp vc : Fin 128 → EReal) (sk : EReal)
    (hg : ∀ c, g c = (lg : EReal) * f c) (ht : ∀ c, t c = if P c then 1 else 0) (hn : ∀ c, n c = if P c then 0 else 1)
    (hp : ∀ c, sp c = if P c then ⊥ else f c) (hc : ∀ c, sc c = if P c then f c else ⊥) :
    foldHead g t n vp vc (sk * (lg : EReal)) = sinkHead sp sc vp vc sk := by
  obtain rfl : g = fun c => (lg : EReal) * f c := funext hg
  have hf : f = fun c => max (sp c) (sc c) := funext fun c => by
    rw [hp, hc]; split <;> simp
  have hm : max (rowMax fun c => (lg : EReal) * f c) (sk * (lg : EReal)) = (lg : EReal) * max (max (rowMax sp) (rowMax sc)) sk := by
    rw [rowMax_lg, mul_comm sk, lg_max, ← rowMax_max, ← hf]
  unfold foldHead sinkHead
  rw [hm, mul_comm sk]
  simp only [lg_sub, exp2_lg]
  generalize max (max (rowMax sp) (rowMax sc)) sk = M
  have h0 : Ideal.exp (⊥ - M) = 0 := by rw [sub_eq_add_neg, EReal.bot_add]; rfl
  have e1 : ∀ c, Ideal.exp (f c - M) * n c = Ideal.exp (sp c - M) := fun c => by
    rw [hn, hp]; split <;> simp [h0]
  have e2 : ∀ c, Ideal.exp (f c - M) * t c = Ideal.exp (sc c - M) := fun c => by
    rw [ht, hc]; split <;> simp [h0]
  simp only [e1, e2]

/-- Pulling the query's scale out of a product: an eighth, and the base change. -/
theorem scale_out (q k : Fin 64 → EReal) :
    ∑ d, q d * (((Real.log 256)⁻¹ : ℝ) : EReal) * k d = (lg : EReal) * ((∑ d, q d * k d) * ((0.125 : ℝ) : EReal)) := by
  have h : ∀ d, q d * (((Real.log 256)⁻¹ : ℝ) : EReal) * k d = ((lg * 0.125 : ℝ) : EReal) * (q d * k d) := fun d => by
    rw [scale_eq, mul_comm (q d), mul_assoc]
  simp only [h]
  rw [mul_sum_coe _ (mul_nonneg lg_pos.le (by norm_num)), EReal.coe_mul, mul_assoc, mul_comm ((0.125 : ℝ) : EReal)]

/-- A product over 128 lanes, the lanes of the other head masked out: the scaled product over one head's lanes. -/
theorem dot_half (h : Fin 2) (q kk mask : Fin 128 → EReal) (q' k : Fin 64 → EReal)
    (hm : ∀ l : Fin 128, mask l = if (l : ℕ) / 64 = h then 1 else 0)
    (hq : ∀ d : Fin 64, q ⟨64 * h + d, by omega⟩ = q' d) (hk : ∀ d : Fin 64, kk ⟨64 * h + d, by omega⟩ = k d) :
    ∑ l, q l * (((Real.log 256)⁻¹ : ℝ) : EReal) * mask l * kk l = (lg : EReal) * ((∑ d, q' d * k d) * ((0.125 : ℝ) : EReal)) := by
  rw [← scale_out]
  refine (Fin.sum_univ_add (a := 64) (b := 64) _).trans ?_
  match h with
  | 0 =>
    refine (congrArg₂ (· + ·) (Finset.sum_congr rfl fun d _ => ?_) (Finset.sum_eq_zero fun d _ => ?_)).trans (add_zero _)
    · have e : (Fin.castAdd 64 d : Fin 128) = ⟨64 * (0 : Fin 2) + d, by show 64 * 0 + (d : ℕ) < 128; omega⟩ := Fin.ext (by show (d : ℕ) = 64 * 0 + d; omega)
      rw [hm, if_pos (by show (d : ℕ) / 64 = 0; omega), mul_one, e]
      exact congrArg₂ (fun a b => a * _ * b) (hq d) (hk d)
    · rw [hm, if_neg (by show ¬ (64 + (d : ℕ)) / 64 = 0; omega), mul_zero, zero_mul]
  | 1 =>
    refine (congrArg₂ (· + ·) (Finset.sum_eq_zero fun d _ => ?_) (Finset.sum_congr rfl fun d _ => ?_)).trans (zero_add _)
    · rw [hm, if_neg (by show ¬ (d : ℕ) / 64 = 1; omega), mul_zero, zero_mul]
    · have e : (Fin.natAdd 64 d : Fin 128) = ⟨64 * (1 : Fin 2) + d, by show 64 * 1 + (d : ℕ) < 128; omega⟩ := Fin.ext (by show 64 + (d : ℕ) = 64 * 1 + d; omega)
      rw [hm, if_pos (by show (64 + (d : ℕ)) / 64 = 1; omega), mul_one, e]
      exact congrArg₂ (fun a b => a * _ * b) (hq d) (hk d)

end Cert.Attn
-- ==== Proof.AttnTile.lean ====
module

public import proofs.«01_k».proof.Proof.Gen.KernelIdeal.Skeleton
public import proofs.«01_k».proof.Proof.AttnMath
public import Idealize.ShloMosaic.Lib.Pointwise

/-! The attention call's vector operations for one block of 128 queries, two pairs of heads and one key head, and what
they leave at an index. -/
set_option maxRecDepth 16384
@[expose] public noncomputable section
open Idealize.ShloMosaic Idealize.ShloMosaic.TcCoe Idealize.SL.Sem
namespace Cert.KernelIdeal.Attn
open Cert.KernelIdeal Cert.KernelIdeal.Gen Cert.Attn

/-- The scale of the exponent. -/
def l2e : Ideal .f32 := Named.named κ "log2e" 0x3FB8AA3B#32

/-- Two blocks of keys, or of values, one under the other. -/
def under (a b : Vec Ideal S1x128x128 .bf16) : FVec Ideal S256x128 .bf16 :=
  concatenate S256x128 0 [⟨S128x128, shapeCast S128x128 a shapeCasts_S1x128x128_S128x128⟩, ⟨S128x128, shapeCast S128x128 b shapeCasts_S1x128x128_S128x128⟩] concatenates_S128x128_S128x128_S256x128_d0

/-- A pair of heads' queries, scaled, the other head's lanes masked out. -/
def masked (q : Vec Ideal S1x128x128 .f32) (mask : FVec Ideal S1x128 .bf16) : FVec Ideal S128x128 .bf16 :=
  mulf (truncf .bf16 (mulf (shapeCast S128x128 q shapeCasts_S1x128x128_S128x128) (broadcast S128x128 (Named.named κ "qscale" 0x3E38AA3B#32 : Ideal .f32))) bitsLt_bf16_f32)
    (broadcastTo S128x128 mask broadcasts_S1x128_S128x128)

/-- Four tables of 128 rows, one under the other. -/
def four {φ : FTy} (a b c d : FVec Ideal S128x128 φ) : FVec Ideal S512x128 φ :=
  concatenate S512x128 0 [⟨S128x128, a⟩, ⟨S128x128, b⟩, ⟨S128x128, c⟩, ⟨S128x128, d⟩] concatenates_S128x128_S128x128_S128x128_S128x128_S512x128_d0

/-- The four heads' scores against the two blocks of keys. -/
def scores (kp kr : Vec Ideal S1x128x128 .bf16) (q0 q1 : Vec Ideal S1x128x128 .f32) : FVec Ideal S512x256 .f32 :=
  matmul dot_S512x128_S256x128_S512x256_1_1_0_0_n_n none
    (four (masked q0 k0_pay9) (masked q0 (k0_pay11 k0_pay10)) (masked q1 k0_pay9) (masked q1 (k0_pay11 k0_pay10)))
    (under kp kr) (constant S512x256 .f32 0x00000000#32)

/-- The two blocks' scores folded into one: a key no later than the query is of the query's own block, another of the block before. -/
def folded (bias : Ideal .f32) (s : FVec Ideal S512x256 .f32) : FVec Ideal S512x128 .f32 :=
  select k0_pay13 (extractStridedSlice S512x128 ![0, 128] s slices_S512x256_o0_128_S512x128)
    (addf (extractStridedSlice S512x128 ![0, 0] s slices_S512x256_o0_0_S512x128) (broadcast S512x128 bias))

/-- The first head's rows, … -/
def rows0 (g : FVec Ideal S512x128 .f32) : FVec Ideal S128x128 .f32 := extractStridedSlice S128x128 ![0, 0] g slices_S512x128_o0_0_S128x128
/-- … the second's, … -/
def rows1 (g : FVec Ideal S512x128 .f32) : FVec Ideal S128x128 .f32 := extractStridedSlice S128x128 ![128, 0] g slices_S512x128_o128_0_S128x128
/-- … the third's … -/
def rows2 (g : FVec Ideal S512x128 .f32) : FVec Ideal S128x128 .f32 := extractStridedSlice S128x128 ![256, 0] g slices_S512x128_o256_0_S128x128
/-- … and the fourth's. -/
def rows3 (g : FVec Ideal S512x128 .f32) : FVec Ideal S128x128 .f32 := extractStridedSlice S128x128 ![384, 0] g slices_S512x128_o384_0_S128x128

/-- Each row's greatest score or its head's sink, whichever is greater. -/
def top (h : FVec Ideal S128x128 .f32) (a : Elt Ideal .f32) : FVec Ideal S128x1 .f32 :=
  maximumf (shapeCast S128x1 (multiReduction .maximumf [1] S128 h 0xFF800000#32 reduces_S128x128_S128 (.inl rfl) rfl) shapeCasts_S128_S128x1)
    (broadcast S128x1 (Scalar.mulf a l2e))

/-- A head's weights. -/
def weight (h : FVec Ideal S128x128 .f32) (a : Elt Ideal .f32) : FVec Ideal S128x128 .f32 :=
  exp2 (subf h (broadcastTo S128x128 (top h a) broadcasts_S128x1_S128x128))

/-- The four heads' weights. -/
def weights (g : FVec Ideal S512x128 .f32) (a0 a1 a2 a3 : Elt Ideal .f32) : FVec Ideal S512x128 .bf16 :=
  truncf .bf16 (four (weight (rows0 g) a0) (weight (rows1 g) a1) (weight (rows2 g) a2) (weight (rows3 g) a3)) bitsLt_bf16_f32

/-- The weights' products with the values, and, beside them, their sums. -/
def sums (p : FVec Ideal S512x128 .bf16) (vp vr : Vec Ideal S1x128x128 .bf16) : FVec Ideal S512x256 .f32 :=
  matmul dot_S512x256_S256x256_S512x256_1_0_0_1_n_n none
    (concatenate S512x256 1 [⟨S512x128, mulf p k0_pay15⟩, ⟨S512x128, mulf p k0_pay14⟩] concatenates_S512x128_S512x128_S512x256_d1)
    (concatenate S256x256 1 [⟨S256x128, under vp vr⟩, ⟨S256x128, broadcast S256x128 (Scalar.ofBits .bf16 0x3F80#16 : Ideal .bf16)⟩] concatenates_S256x128_S256x128_S256x256_d1)
    (constant S512x256 .f32 0x00000000#32)

/-- The sink's weight in every lane. -/
def sunk (h : FVec Ideal S128x128 .f32) (a : Elt Ideal .f32) : FVec Ideal S128x128 .f32 :=
  broadcastTo S128x128 (shapeCast S128x1 (exp2 (subf (broadcast S128x1 (Scalar.mulf a l2e)) (top h a))) shapeCasts_S128x1_S128x1) broadcasts_S128x1_S128x128

/-- A pair of heads' results: the first head's in the first 64 lanes. -/
def pair (e o : FVec Ideal S128x256 .f32) (se so : FVec Ideal S128x128 .f32) : FVec Ideal S1x128x128 .bf16 :=
  shapeCast S1x128x128 (truncf .bf16
    (divf (select k0_pay12 (extractStridedSlice S128x128 ![0, 0] e slices_S128x256_o0_0_S128x128) (extractStridedSlice S128x128 ![0, 0] o slices_S128x256_o0_0_S128x128))
      (addf (select k0_pay12 (extractStridedSlice S128x128 ![0, 128] e slices_S128x256_o0_128_S128x128) (extractStridedSlice S128x128 ![0, 128] o slices_S128x256_o0_128_S128x128))
        (select k0_pay12 se so))) bitsLt_bf16_f32) shapeCasts_S128x128_S1x128x128

/-- The first pair of heads' block of results. -/
def tileA (bias : Ideal .f32) (kp kr vp vr : Vec Ideal S1x128x128 .bf16) (q0 q1 : Vec Ideal S1x128x128 .f32) (a0 a1 a2 a3 : Elt Ideal .f32) : FVec Ideal S1x128x128 .bf16 :=
  let g := folded bias (scores kp kr q0 q1)
  let r := sums (weights g a0 a1 a2 a3) vp vr
  pair (extractStridedSlice S128x256 ![0, 0] r slices_S512x256_o0_0_S128x256) (extractStridedSlice S128x256 ![128, 0] r slices_S512x256_o128_0_S128x256)
    (sunk (rows0 g) a0) (sunk (rows1 g) a1)

/-- The second pair of heads' block of results. -/
def tileB (bias : Ideal .f32) (kp kr vp vr : Vec Ideal S1x128x128 .bf16) (q0 q1 : Vec Ideal S1x128x128 .f32) (a0 a1 a2 a3 : Elt Ideal .f32) : FVec Ideal S1x128x128 .bf16 :=
  let g := folded bias (scores kp kr q0 q1)
  let r := sums (weights g a0 a1 a2 a3) vp vr
  pair (extractStridedSlice S128x256 ![256, 0] r slices_S512x256_o256_0_S128x256) (extractStridedSlice S128x256 ![384, 0] r slices_S512x256_o384_0_S128x256)
    (sunk (rows2 g) a2) (sunk (rows3 g) a3)

/-- The scale of the exponent is `1 / log 2`. -/
theorem l2e_eq : l2e = (lg : EReal) := IdealRules.named_const.ideal_named_scalar (φ := .f32) κ "log2e" 0x3FB8AA3B#32 (((Real.log 2)⁻¹ : ℝ) : EReal) rfl

/-- The queries' scale is `1 / log 256`. -/
theorem qscale_eq : (Named.named κ "qscale" 0x3E38AA3B#32 : Ideal .f32) = (((Real.log 256)⁻¹ : ℝ) : EReal) :=
  IdealRules.named_const.ideal_named_scalar (φ := .f32) κ "qscale" 0x3E38AA3B#32 (((Real.log 256)⁻¹ : ℝ) : EReal) rfl

/-- The mask's constant is minus infinity. -/
theorem mask_eq : (Named.named κ "mask" 0xF149F2CA#32 : Ideal .f32) = (⊥ : EReal) :=
  IdealRules.named_const.ideal_named_scalar (φ := .f32) κ "mask" 0xF149F2CA#32 ⊥ rfl

/-- A lane is below 64. -/
theorem lane_lt : ∀ l : Fin 128, IntOp.cmpi CmpIPredicate.slt (BitVec.ofNat 32 (l : ℕ)) 64#32 = if (l : ℕ) / 64 = 0 then 1#1 else 0#1 := by decide +kernel

/-- A lane is not below 64. -/
theorem lane_ge : ∀ l : Fin 128, IntOp.cmpi CmpIPredicate.sge (BitVec.ofNat 32 (l : ℕ)) 64#32 = if (l : ℕ) / 64 = 1 then 1#1 else 0#1 := by decide +kernel

/-- A row's place in its block of 128. -/
theorem row_mod : ∀ r : Fin 512, IntOp.andi (BitVec.ofNat 32 (r : ℕ)) 127#32 = BitVec.ofNat 32 ((r : ℕ) % 128) := by decide +kernel

/-- A key's place is no later than a query's. -/
theorem place_le : ∀ r c : Fin 128, IntOp.cmpi CmpIPredicate.sle (BitVec.ofNat 32 (c : ℕ)) (BitVec.ofNat 32 (r : ℕ)) = if (c : ℕ) ≤ (r : ℕ) then 1#1 else 0#1 := by decide +kernel

/-- So the comparison the call makes. -/
theorem tri_cmp (r : Fin 512) (c : Fin 128) : IntOp.cmpi CmpIPredicate.sle (BitVec.ofNat 32 (c : ℕ)) (IntOp.andi (BitVec.ofNat 32 (r : ℕ)) 127#32) = if (c : ℕ) ≤ (r : ℕ) % 128 then 1#1 else 0#1 := by
  rw [row_mod]
  exact place_le ⟨(r : ℕ) % 128, by omega⟩ c

/-- A comparison's bit as a number. -/
theorem bit_num (P : Prop) [Decidable P] : (FloatOps.sitofp (F := Ideal) FTy.f32 (BitVec.setWidth 32 (if P then 1#1 else 0#1)) : EReal) = if P then 1 else 0 := by
  split
  · show (((1 : ℤ) : ℝ) : EReal) = 1; simp
  · show (((0 : ℤ) : ℝ) : EReal) = 0; simp

/-- The mask of a pair's first head. -/
theorem lo_at (l : Fin 128) : k0_pay9 (F := Ideal) (ix2 0 l) = if (l : ℕ) / 64 = (0 : Fin 2) then 1 else 0 := by
  pointwise [k0_pay9]
  rw [lane_lt]
  exact bit_num _

/-- The mask of a pair's second head. -/
theorem hi_at (l : Fin 128) : k0_pay11 (F := Ideal) k0_pay10 (ix2 0 l) = if (l : ℕ) / 64 = (1 : Fin 2) then 1 else 0 := by
  pointwise [k0_pay11, k0_pay10]
  rw [lane_ge]
  exact bit_num _

/-- The mark of a key of the query's own block. -/
theorem tri_at (r : Fin 512) (c : Fin 128) : k0_pay14 (F := Ideal) (ix2 r c) = if (c : ℕ) ≤ (r : ℕ) % 128 then 1 else 0 := by
  pointwise [k0_pay14, k0_pay13]
  rw [tri_cmp]
  exact bit_num _

/-- The mark of a key of the block before. -/
theorem ntri_at (r : Fin 512) (c : Fin 128) : k0_pay15 (F := Ideal) (ix2 r c) = if (c : ℕ) ≤ (r : ℕ) % 128 then 0 else 1 := by
  pointwise [k0_pay15]
  rw [tri_at]
  split
  · rw [← EReal.coe_one, ← EReal.coe_sub, sub_self, EReal.coe_zero]
  · simp

/-- Row `128 j + r` of four tables is row `r` of the `j`-th. -/
theorem four_at {φ : FTy} (a b c d : FVec Ideal S128x128 φ) (j : Fin 4) (r k : Fin 128) :
    four a b c d (ix2 (⟨128 * j + r, by omega⟩ : Fin 512) k) = (![a, b, c, d] j) (ix2 r k) := by
  match j with
  | 0 => pointwise [four]
  | 1 => pointwise [four]
  | 2 =>
    pointwise [four]
    rw [dif_neg (by omega), dif_neg (by omega), dif_pos (by omega)]
    exact congrArg (fun i => c (ix2 i k)) (Fin.ext (by show 256 + (r : ℕ) - 128 - 128 = r; omega))
  | 3 =>
    pointwise [four]
    rw [dif_neg (by omega), dif_neg (by omega), dif_neg (by omega)]
    exact congrArg (fun i => d (ix2 i k)) (Fin.ext (by show 384 + (r : ℕ) - 128 - 128 - 128 = r; omega))

/-- A masked query's lane. -/
theorem masked_at (q : Vec Ideal S1x128x128 .f32) (mask : FVec Ideal S1x128 .bf16) (r l : Fin 128) :
    masked q mask (ix2 r l) = q (ix3 0 r l) * (((Real.log 256)⁻¹ : ℝ) : EReal) * mask (ix2 0 l) := by
  pointwise [masked]
  rw [qscale_eq]

/-- The block before. -/
theorem under_lo (a b : Vec Ideal S1x128x128 .bf16) (r c : Fin 128) : under a b (ix2 (⟨r, by omega⟩ : Fin 256) c) = a (ix3 0 r c) := by
  pointwise [under]

/-- The query's own block. -/
theorem under_hi (a b : Vec Ideal S1x128x128 .bf16) (r c : Fin 128) : under a b (ix2 (⟨128 + r, by omega⟩ : Fin 256) c) = b (ix3 0 r c) := by
  pointwise [under]

/-- A score is a product over 128 lanes. -/
theorem scores_sum (kp kr : Vec Ideal S1x128x128 .bf16) (q0 q1 : Vec Ideal S1x128x128 .f32) (r : Fin 512) (c : Fin 256) :
    scores kp kr q0 q1 (ix2 r c) = ∑ x, four (masked q0 k0_pay9) (masked q0 (k0_pay11 k0_pay10)) (masked q1 k0_pay9) (masked q1 (k0_pay11 k0_pay10)) (ix2 r x) * under kp kr (ix2 c x) := by
  pointwise [scores]

/-- A head's rows. -/
theorem rows_at (g : FVec Ideal S512x128 .f32) (j : Fin 4) (r c : Fin 128) :
    (![rows0 g, rows1 g, rows2 g, rows3 g] j) (ix2 r c) = g (ix2 (⟨128 * j + r, by omega⟩ : Fin 512) c) := by
  match j with
  | 0 => show rows0 g (ix2 r c) = _; pointwise [rows0]
  | 1 => show rows1 g (ix2 r c) = _; pointwise [rows1]
  | 2 => show rows2 g (ix2 r c) = _; pointwise [rows2]
  | 3 => show rows3 g (ix2 r c) = _; pointwise [rows3]

/-- A row's greatest score or the sink. -/
theorem top_at (h : FVec Ideal S128x128 .f32) (a : Elt Ideal .f32) (r : Fin 128) :
    top h a (ix2 r 0) = max (rowMax fun c => h (ix2 r c)) (a * (lg : EReal)) := by
  pointwise [top]
  rw [l2e_eq]
  rfl

/-- A weight at an index. -/
theorem weight_at (h : FVec Ideal S128x128 .f32) (a : Elt Ideal .f32) (r c : Fin 128) :
    weight h a (ix2 r c) = Ideal.exp2 (h (ix2 r c) - max (rowMax fun c => h (ix2 r c)) (a * (lg : EReal))) := by
  rw [← top_at]
  pointwise [weight]
  rfl

/-- The sink's weight at an index. -/
theorem sunk_at (h : FVec Ideal S128x128 .f32) (a : Elt Ideal .f32) (r c : Fin 128) :
    sunk h a (ix2 r c) = Ideal.exp2 (a * (lg : EReal) - max (rowMax fun c => h (ix2 r c)) (a * (lg : EReal))) := by
  rw [← top_at, ← l2e_eq]
  pointwise [sunk]
  rfl

/-- The weights' product with the values. -/
theorem sums_lo (p : FVec Ideal S512x128 .bf16) (vp vr : Vec Ideal S1x128x128 .bf16) (r : Fin 512) (d : Fin 128) :
    sums p vp vr (ix2 r (⟨d, by omega⟩ : Fin 256))
      = ∑ x, p (ix2 r x) * k0_pay15 (F := Ideal) (ix2 r x) * vp (ix3 0 x d) + ∑ x, p (ix2 r x) * k0_pay14 (F := Ideal) (ix2 r x) * vr (ix3 0 x d) := by
  pointwise [sums]
  exact congrArg₂ (· + ·) (Finset.sum_congr rfl fun x _ => by rw [under_lo]) (Finset.sum_congr rfl fun x _ => by rw [under_hi])

/-- The weights' sum. -/
theorem sums_hi (p : FVec Ideal S512x128 .bf16) (vp vr : Vec Ideal S1x128x128 .bf16) (r : Fin 512) (d : Fin 128) :
    sums p vp vr (ix2 r (⟨128 + d, by omega⟩ : Fin 256))
      = ∑ x, p (ix2 r x) * k0_pay15 (F := Ideal) (ix2 r x) + ∑ x, p (ix2 r x) * k0_pay14 (F := Ideal) (ix2 r x) := by
  pointwise [sums]

/-- The folded score at an index. -/
theorem folded_at (bias : Ideal .f32) (s : FVec Ideal S512x256 .f32) (r : Fin 512) (c : Fin 128) :
    folded bias s (ix2 r c) = if (c : ℕ) ≤ (r : ℕ) % 128 then s (ix2 r (⟨128 + c, by omega⟩ : Fin 256)) else s (ix2 r (⟨c, by omega⟩ : Fin 256)) + bias := by
  pointwise [folded, k0_pay13]
  rw [tri_cmp]
  split <;> rfl

/-- A pair's block of results at an index. -/
theorem pair_at (e o : FVec Ideal S128x256 .f32) (se so : FVec Ideal S128x128 .f32) (r d : Fin 128) :
    pair e o se so (ix3 0 r d) = if (d : ℕ) / 64 = 0
      then Ideal.div (e (ix2 r (⟨d, by omega⟩ : Fin 256))) (e (ix2 r (⟨128 + d, by omega⟩ : Fin 256)) + se (ix2 r d))
      else Ideal.div (o (ix2 r (⟨d, by omega⟩ : Fin 256))) (o (ix2 r (⟨128 + d, by omega⟩ : Fin 256)) + so (ix2 r d)) := by
  pointwise [pair, k0_pay12]
  rw [lane_lt]
  split <;> rfl

/-- One head's result at a lane: the folded attention over its row of scores. -/
def headAt (g : FVec Ideal S512x128 .f32) (vp vr : Vec Ideal S1x128x128 .bf16) (a : Elt Ideal .f32) (j : Fin 4) (r d : Fin 128) : EReal :=
  foldHead (fun c => g (ix2 (⟨128 * j + r, by omega⟩ : Fin 512) c)) (fun c => k0_pay14 (F := Ideal) (ix2 (⟨128 * j + r, by omega⟩ : Fin 512) c))
    (fun c => k0_pay15 (F := Ideal) (ix2 (⟨128 * j + r, by omega⟩ : Fin 512) c)) (fun c => vp (ix3 0 c d)) (fun c => vr (ix3 0 c d)) (a * (lg : EReal))

/-- A row's weights. -/
theorem weights_at (g : FVec Ideal S512x128 .f32) (a0 a1 a2 a3 : Elt Ideal .f32) (j : Fin 4) (r c : Fin 128) :
    weights g a0 a1 a2 a3 (ix2 (⟨128 * j + r, by omega⟩ : Fin 512) c) = Ideal.exp2 (g (ix2 (⟨128 * j + r, by omega⟩ : Fin 512) c)
      - max (rowMax fun c => g (ix2 (⟨128 * j + r, by omega⟩ : Fin 512) c)) ((![a0, a1, a2, a3] j : EReal) * (lg : EReal))) := by
  refine (four_at _ _ _ _ j r c).trans ?_
  simp only [← rows_at g j]
  match j with
  | 0 => exact weight_at _ _ r c
  | 1 => exact weight_at _ _ r c
  | 2 => exact weight_at _ _ r c
  | 3 => exact weight_at _ _ r c

/-- A head's quotient. -/
theorem head_at (g : FVec Ideal S512x128 .f32) (vp vr : Vec Ideal S1x128x128 .bf16) (a0 a1 a2 a3 : Elt Ideal .f32) (j : Fin 4) (r d : Fin 128) (s : EReal)
    (hs : s = Ideal.exp2 ((![a0, a1, a2, a3] j : EReal) * (lg : EReal) - max (rowMax fun c => (![rows0 g, rows1 g, rows2 g, rows3 g] j) (ix2 r c)) ((![a0, a1, a2, a3] j : EReal) * (lg : EReal)))) :
    Ideal.div (sums (weights g a0 a1 a2 a3) vp vr (ix2 (⟨128 * j + r, by omega⟩ : Fin 512) (⟨d, by omega⟩ : Fin 256)))
      (sums (weights g a0 a1 a2 a3) vp vr (ix2 (⟨128 * j + r, by omega⟩ : Fin 512) (⟨128 + d, by omega⟩ : Fin 256)) + s)
      = headAt g vp vr (![a0, a1, a2, a3] j) j r d := by
  rw [sums_lo, sums_hi, hs]
  simp only [weights_at, rows_at]
  rfl

/-- The first pair's block of results at an index. -/
theorem tileA_at (bias : Ideal .f32) (kp kr vp vr : Vec Ideal S1x128x128 .bf16) (q0 q1 : Vec Ideal S1x128x128 .f32) (a0 a1 a2 a3 : Elt Ideal .f32) (r d : Fin 128) :
    tileA bias kp kr vp vr q0 q1 a0 a1 a2 a3 (ix3 0 r d) = if (d : ℕ) / 64 = 0
      then headAt (folded bias (scores kp kr q0 q1)) vp vr a0 0 r d else headAt (folded bias (scores kp kr q0 q1)) vp vr a1 1 r d := by
  refine (pair_at _ _ _ _ r d).trans ?_
  refine if_congr Iff.rfl ?_ ?_
  · refine Eq.trans ?_ (head_at _ vp vr a0 a1 a2 a3 0 r d _ (sunk_at _ _ r d))
    pointwise
  · refine Eq.trans ?_ (head_at _ vp vr a0 a1 a2 a3 1 r d _ (sunk_at _ _ r d))
    pointwise

/-- The second pair's block of results at an index. -/
theorem tileB_at (bias : Ideal .f32) (kp kr vp vr : Vec Ideal S1x128x128 .bf16) (q0 q1 : Vec Ideal S1x128x128 .f32) (a0 a1 a2 a3 : Elt Ideal .f32) (r d : Fin 128) :
    tileB bias kp kr vp vr q0 q1 a0 a1 a2 a3 (ix3 0 r d) = if (d : ℕ) / 64 = 0
      then headAt (folded bias (scores kp kr q0 q1)) vp vr a2 2 r d else headAt (folded bias (scores kp kr q0 q1)) vp vr a3 3 r d := by
  refine (pair_at _ _ _ _ r d).trans ?_
  refine if_congr Iff.rfl ?_ ?_
  · refine Eq.trans ?_ (head_at _ vp vr a0 a1 a2 a3 2 r d _ (sunk_at _ _ r d))
    pointwise
  · refine Eq.trans ?_ (head_at _ vp vr a0 a1 a2 a3 3 r d _ (sunk_at _ _ r d))
    pointwise

end Cert.KernelIdeal.Attn
-- ==== Proof.AttnHead.lean ====
module

public import proofs.«01_k».proof.Proof.AttnTile

/-! A head of the attention call's block of results is the softmax with a sink over the window of two blocks of keys. -/
set_option maxRecDepth 16384
@[expose] public noncomputable section
open Idealize.ShloMosaic Idealize.ShloMosaic.TcCoe Idealize.SL.Sem
namespace Cert.KernelIdeal.Attn
open Cert.KernelIdeal Cert.KernelIdeal.Gen Cert.Attn

/-- A query's score against a key. -/
def score (q k : Fin 64 → EReal) : EReal := (∑ d, q d * k d) * ((0.125 : ℝ) : EReal)

/-- The query row of the `j`-th head. -/
def qrow (q0 q1 : Vec Ideal S1x128x128 .f32) (j : Fin 4) (r : Fin 128) (x : Fin 64) : EReal :=
  (![q0, q0, q1, q1] j) (ix3 0 r (⟨64 * ((j : ℕ) % 2) + x, by omega⟩ : Fin 128))

/-- A score of the call is the base change times the score. -/
theorem scores_half (kp kr : Vec Ideal S1x128x128 .bf16) (q0 q1 : Vec Ideal S1x128x128 .f32) (j : Fin 4) (r : Fin 128) (c : Fin 256) (k : Fin 64 → EReal)
    (hk : ∀ (h : Fin 2) (x : Fin 64), under kp kr (ix2 c (⟨64 * h + x, by omega⟩ : Fin 128)) = k x) :
    scores kp kr q0 q1 (ix2 (⟨128 * j + r, by omega⟩ : Fin 512) c) = (lg : EReal) * score (qrow q0 q1 j r) k := by
  rw [scores_sum]
  simp only [four_at]
  match j with
  | 0 =>
    refine (Finset.sum_congr rfl fun x _ => congrArg (· * under kp kr (ix2 c x)) (masked_at q0 _ r x)).trans ?_
    exact dot_half 0 (fun l => q0 (ix3 0 r l)) (fun l => under kp kr (ix2 c l)) (fun l => k0_pay9 (F := Ideal) (ix2 0 l)) _ k lo_at (fun d => rfl) (hk 0)
  | 1 =>
    refine (Finset.sum_congr rfl fun x _ => congrArg (· * under kp kr (ix2 c x)) (masked_at q0 _ r x)).trans ?_
    exact dot_half 1 (fun l => q0 (ix3 0 r l)) (fun l => under kp kr (ix2 c l)) (fun l => k0_pay11 (F := Ideal) k0_pay10 (ix2 0 l)) _ k hi_at (fun d => rfl) (hk 1)
  | 2 =>
    refine (Finset.sum_congr rfl fun x _ => congrArg (· * under kp kr (ix2 c x)) (masked_at q1 _ r x)).trans ?_
    exact dot_half 0 (fun l => q1 (ix3 0 r l)) (fun l => under kp kr (ix2 c l)) (fun l => k0_pay9 (F := Ideal) (ix2 0 l)) _ k lo_at (fun d => rfl) (hk 0)
  | 3 =>
    refine (Finset.sum_congr rfl fun x _ => congrArg (· * under kp kr (ix2 c x)) (masked_at q1 _ r x)).trans ?_
    exact dot_half 1 (fun l => q1 (ix3 0 r l)) (fun l => under kp kr (ix2 c l)) (fun l => k0_pay11 (F := Ideal) k0_pay10 (ix2 0 l)) _ k hi_at (fun d => rfl) (hk 1)

/-- A head's result: `first` says that there is no block before the query's own. -/
theorem headAt_eq (first : Prop) [Decidable first] (bias : Ideal .f32) (hb : bias = if first then (⊥ : EReal) else 0)
    (kp kr vp vr : Vec Ideal S1x128x128 .bf16) (q0 q1 : Vec Ideal S1x128x128 .f32) (a : EReal) (j : Fin 4) (r d : Fin 128) (kP kR : Fin 128 → Fin 64 → EReal)
    (hp : ∀ (h : Fin 2) (c : Fin 128) (x : Fin 64), kp (ix3 0 c (⟨64 * h + x, by omega⟩ : Fin 128)) = kP c x)
    (hr : ∀ (h : Fin 2) (c : Fin 128) (x : Fin 64), kr (ix3 0 c (⟨64 * h + x, by omega⟩ : Fin 128)) = kR c x) :
    headAt (folded bias (scores kp kr q0 q1)) vp vr a j r d
      = sinkHead (fun c => if (c : ℕ) ≤ r ∨ first then ⊥ else score (qrow q0 q1 j r) (kP c)) (fun c => if (c : ℕ) ≤ r then score (qrow q0 q1 j r) (kR c) else ⊥)
          (fun c => vp (ix3 0 c d)) (fun c => vr (ix3 0 c d)) a := by
  have hm : (128 * (j : ℕ) + r) % 128 = r := by omega
  refine fold_eq (fun c => (c : ℕ) ≤ r) _ _ _ (fun c => if (c : ℕ) ≤ r then score (qrow q0 q1 j r) (kR c) else if first then ⊥ else score (qrow q0 q1 j r) (kP c)) _ _ _ _ _
    (fun c => ?_) (fun c => ?_) (fun c => ?_) (fun c => ?_) (fun c => ?_)
  · rw [folded_at]
    simp only [hm]
    rw [scores_half kp kr q0 q1 j r _ (kR c) fun h x => (under_hi _ _ _ _).trans (hr h c x),
      scores_half kp kr q0 q1 j r _ (kP c) fun h x => (under_lo _ _ _ _).trans (hp h c x), hb]
    by_cases h1 : (c : ℕ) ≤ r
    · rw [if_pos h1, if_pos h1]
    · rw [if_neg h1, if_neg h1]
      by_cases h2 : first
      · rw [if_pos h2, if_pos h2, EReal.add_bot, EReal.coe_mul_bot_of_pos lg_pos]
      · rw [if_neg h2, if_neg h2, add_zero]
  · rw [tri_at]; simp only [hm]
  · rw [ntri_at]; simp only [hm]
  · by_cases h1 : (c : ℕ) ≤ r <;> by_cases h2 : first <;> simp [h1, h2]
  · by_cases h1 : (c : ℕ) ≤ r <;> simp [h1]

/-- Where there is no block before, its values do not matter. -/
theorem sinkHead_bot (sc vp vp' vc : Fin 128 → EReal) (a : EReal) : sinkHead (fun _ => ⊥) sc vp vc a = sinkHead (fun _ => ⊥) sc vp' vc a := by
  have h : ∀ x : EReal, Ideal.exp (⊥ - x) = 0 := fun x => by
    rw [EReal.bot_sub]; rfl
  unfold sinkHead
  simp only [h, zero_mul]

end Cert.KernelIdeal.Attn
-- ==== Proof.AttnPieces.lean ====
module

public import proofs.«01_k».proof.Proof.AttnHead
public import proofs.«01_k».proof.Proof.Gen.KernelIdeal.Frame
public import Idealize.ShloMosaic.Lib.Pipeline.ValueKit

/-! The stores of the attention call's results: every store is the block of results of one pair of heads and one block of
queries. -/
set_option maxRecDepth 16384
@[expose] public noncomputable section
open Idealize.ShloMosaic Idealize.ShloMosaic.TcCoe Idealize.SL.Sem
open Idealize.ShloMosaic.Pipeline (Dat)
namespace Cert.KernelIdeal.Attn
open Cert.KernelIdeal Cert.KernelIdeal.Gen Cert.Attn

/-- A block of 128 rows and 128 columns lies in the 2048 rows when its number is below 16, and in the columns when its number is. -/
theorem inb_block {N K : ℕ} (b : Fin N) (h : Fin K) : ∀ a, (![0, 128 * (b : ℕ), 128 * (h : ℕ)] : Fin 3 → ℕ) a + (![1, 128, 128] : Fin 3 → ℕ) a ≤ (![1, 128 * N, 128 * K] : Fin 3 → ℕ) a := by
  intro a
  match a with
  | 0 => show 0 + 1 ≤ 1; omega
  | 1 => show 128 * (b : ℕ) + 128 ≤ 128 * N; omega
  | 2 => show 128 * (h : ℕ) + 128 ≤ 128 * K; omega

/-- One sink lies in the 16. -/
theorem inb_sink (n : Fin 16) : ∀ a, (![(n : ℕ)] : Fin 1 → ℕ) a + (![1] : Fin 1 → ℕ) a ≤ (![16] : Fin 1 → ℕ) a := by
  intro a
  match a with
  | 0 => show (n : ℕ) + 1 ≤ 16; omega

/-- Block `b` of a key head's keys or values. -/
def keysOf (X : Vec Ideal S1x2048x256 .bf16) (b : Fin 16) (h : Fin 2) : Vec Ideal S1x128x128 .bf16 :=
  View.ld X (Rect.unit ![0, 128 * (b : ℕ), 128 * (h : ℕ)] ![1, 128, 128] (inb_block b h))

/-- Block `b` of a pair of heads' queries. -/
def queriesOf (X : Vec Ideal S1x2048x1024 .f32) (b : Fin 16) (s : Fin 8) : Vec Ideal S1x128x128 .f32 :=
  View.ld X (Rect.unit ![0, 128 * (b : ℕ), 128 * (s : ℕ)] ![1, 128, 128] (inb_block b s))

/-- A head's sink. -/
def sinkOf (X : Vec Ideal S16 .f32) (n : Fin 16) : Elt Ideal .f32 :=
  View.ld X (Rect.unit ![(n : ℕ)] ![1] (inb_sink n)) (Shape.Idx.first (show 0 < (⟨1, ![1]⟩ : Shape).numel by decide))

/-- The block before, or the first block itself. -/
def prev (b : Fin 16) : Fin 16 := ⟨(b : ℕ) - 1, by omega⟩

/-- The first pair of heads of a group of two. -/
def slabA (h s : Fin 2) : Fin 8 := ⟨4 * h + 2 * s, by omega⟩
/-- The second. -/
def slabB (h s : Fin 2) : Fin 8 := ⟨4 * h + 2 * s + 1, by omega⟩
/-- A pair's first head. -/
def headE (p : Fin 8) : Fin 16 := ⟨2 * p, by omega⟩
/-- A pair's second head. -/
def headO (p : Fin 8) : Fin 16 := ⟨2 * p + 1, by omega⟩

/-- What is added to the scores of the block before. -/
def biasOf (b : Fin 16) : Ideal .f32 := if (b : ℕ) = 0 then (Named.named κ "mask" 0xF149F2CA#32 : Ideal .f32) else FloatOps.ofBits .f32 0x00000000#32

/-- The store of a group's first pair of heads. -/
def storeA (X0 : Vec Ideal S16 .f32) (X1 : Vec Ideal S1x2048x1024 .f32) (X2 X3 : Vec Ideal S1x2048x256 .bf16) (b : Fin 16) (h s : Fin 2) :
    View.Piece (Elt Ideal) S1x2048x1024 .bf16 :=
  ⟨Rect.unit ![0, 128 * (b : ℕ), 128 * (slabA h s : ℕ)] ![1, 128, 128] (inb_block b (slabA h s)),
   tileA (biasOf b) (keysOf X2 (prev b) h) (keysOf X2 b h) (keysOf X3 (prev b) h) (keysOf X3 b h) (queriesOf X1 b (slabA h s)) (queriesOf X1 b (slabB h s))
     (sinkOf X0 (headE (slabA h s))) (sinkOf X0 (headO (slabA h s))) (sinkOf X0 (headE (slabB h s))) (sinkOf X0 (headO (slabB h s)))⟩

/-- The store of a group's second pair of heads. -/
def storeB (X0 : Vec Ideal S16 .f32) (X1 : Vec Ideal S1x2048x1024 .f32) (X2 X3 : Vec Ideal S1x2048x256 .bf16) (b : Fin 16) (h s : Fin 2) :
    View.Piece (Elt Ideal) S1x2048x1024 .bf16 :=
  ⟨Rect.unit ![0, 128 * (b : ℕ), 128 * (slabB h s : ℕ)] ![1, 128, 128] (inb_block b (slabB h s)),
   tileB (biasOf b) (keysOf X2 (prev b) h) (keysOf X2 b h) (keysOf X3 (prev b) h) (keysOf X3 b h) (queriesOf X1 b (slabA h s)) (queriesOf X1 b (slabB h s))
     (sinkOf X0 (headE (slabA h s))) (sinkOf X0 (headO (slabA h s))) (sinkOf X0 (headE (slabB h s))) (sinkOf X0 (headO (slabB h s)))⟩

/-- The stores of one block of queries, the last first. -/
def storesOf (X0 : Vec Ideal S16 .f32) (X1 : Vec Ideal S1x2048x1024 .f32) (X2 X3 : Vec Ideal S1x2048x256 .bf16) (b : Fin 16) (L : List (View.Piece (Elt Ideal) S1x2048x1024 .bf16)) :
    List (View.Piece (Elt Ideal) S1x2048x1024 .bf16) :=
  storeB X0 X1 X2 X3 b 1 1 :: storeA X0 X1 X2 X3 b 1 1 :: storeB X0 X1 X2 X3 b 1 0 :: storeA X0 X1 X2 X3 b 1 0 ::
    storeB X0 X1 X2 X3 b 0 1 :: storeA X0 X1 X2 X3 b 0 1 :: storeB X0 X1 X2 X3 b 0 0 :: storeA X0 X1 X2 X3 b 0 0 :: L

/-- The stores of the blocks below `n`, the last first. -/
def stores (X0 : Vec Ideal S16 .f32) (X1 : Vec Ideal S1x2048x1024 .f32) (X2 X3 : Vec Ideal S1x2048x256 .bf16) : (n : ℕ) → n ≤ 16 → List (View.Piece (Elt Ideal) S1x2048x1024 .bf16)
  | 0, _ => []
  | n + 1, h => storesOf X0 X1 X2 X3 ⟨n, h⟩ (stores X0 X1 X2 X3 n (Nat.le_of_succ_le h))

/-- The attention call's stores of its results. -/
theorem stores_eq  (c : Dev nD) (i : grid0.Coords) (arg1 : Memref sig .tc .smem S16 .f32) (harg1 : arg1.IsWhole) (arg2 : Memref sig .tc .vmem S1x2048x1024 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S64x7936 .f32) (harg5 : arg5.IsWhole) (arg6 : Memref sig .tc .vmem S64x1024 .f32) (harg6 : arg6.IsWhole) (arg7 : Memref sig .tc .vmem S32x1024 .f32) (harg7 : arg7.IsWhole) (arg8 : Memref sig .tc .vmem S64x1024 .f32) (harg8 : arg8.IsWhole) (arg9 : Memref sig .tc .vmem S64x5632 .f32) (harg9 : arg9.IsWhole) (arg10 : Memref sig .tc .vmem S176x1024 .f32) (harg10 : arg10.IsWhole) (arg11 : Memref sig .tc .vmem S1x2048x1024 .bf16) (harg11 : arg11.IsWhole) (arg12 : Memref sig .tc .vmem S64x2048 .bf16) (harg12 : arg12.IsWhole) (arg13 : Memref sig .tc .vmem S64x1024 .bf16) (harg13 : arg13.IsWhole) (arg14 : Memref sig .tc .vmem S32x1024 .bf16) (harg14 : arg14.IsWhole) (arg15 : Memref sig .tc .vmem S64x1024 .bf16) (harg15 : arg15.IsWhole) (arg16 : Memref sig .tc .vmem S64x5632 .bf16) (harg16 : arg16.IsWhole) (arg17 : Memref sig .tc .vmem S176x1024 .bf16) (harg17 : arg17.IsWhole)     (x0 : Vec Ideal S16 .f32) (x1 : Vec Ideal S1x2048x1024 .f32) (x2 : Vec Ideal S1x2048x256 .bf16) (x3 : Vec Ideal S1x2048x256 .bf16) (x4 : Vec Ideal S64x7936 .f32) (x5 : Vec Ideal S64x1024 .f32) (x6 : Vec Ideal S32x1024 .f32) (x7 : Vec Ideal S64x1024 .f32) (x8 : Vec Ideal S64x5632 .f32) (x9 : Vec Ideal S176x1024 .f32)  :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).1 = stores (View.read (Elt Ideal) arg1.view (harg1.unread x0)) (View.read (Elt Ideal) arg2.view (harg2.unread x1)) (View.read (Elt Ideal) arg3.view (harg3.unread x2)) (View.read (Elt Ideal) arg4.view (harg4.unread x3)) 16 (le_refl 16) := by
  sl_kernel_rfl

end Cert.KernelIdeal.Attn
-- ==== Proof.AttnPoint.lean ====
module

public import proofs.«01_k».proof.Proof.AttnPieces

/-! Every store of the attention call holds, at an index, one head's attention at the index's token. -/
set_option maxRecDepth 16384
@[expose] public noncomputable section
open Idealize.ShloMosaic Idealize.ShloMosaic.TcCoe Idealize.SL.Sem
namespace Cert.KernelIdeal.Attn
open Cert.KernelIdeal Cert.KernelIdeal.Gen Cert.Attn

/-- The window attention of one sequence at token `s` and column `e`: column `e` is lane `e % 64` of head `e / 64`, whose key
head is `e / 512`; the window is the token's block of 128 up to the token and the block before after the token's place. -/
def windowAt (q : Fin 2048 → Fin 1024 → EReal) (kk vv : Fin 2048 → Fin 2 → Fin 64 → EReal) (sk : Fin 16 → EReal) (s : Fin 2048) (e : Fin 1024) : EReal :=
  sinkHead
    (fun c => if (c : ℕ) ≤ (s : ℕ) % 128 ∨ (s : ℕ) / 128 = 0 then ⊥ else
      score (fun z => q s ⟨64 * ((e : ℕ) / 64) + z, by omega⟩) (kk ⟨128 * ((s : ℕ) / 128 - 1) + c, by omega⟩ ⟨(e : ℕ) / 512, by omega⟩))
    (fun c => if (c : ℕ) ≤ (s : ℕ) % 128 then
      score (fun z => q s ⟨64 * ((e : ℕ) / 64) + z, by omega⟩) (kk ⟨128 * ((s : ℕ) / 128) + c, by omega⟩ ⟨(e : ℕ) / 512, by omega⟩) else ⊥)
    (fun c => vv ⟨128 * ((s : ℕ) / 128 - 1) + c, by omega⟩ ⟨(e : ℕ) / 512, by omega⟩ ⟨(e : ℕ) % 64, by omega⟩)
    (fun c => vv ⟨128 * ((s : ℕ) / 128) + c, by omega⟩ ⟨(e : ℕ) / 512, by omega⟩ ⟨(e : ℕ) % 64, by omega⟩)
    (sk ⟨(e : ℕ) / 64, by omega⟩)

/-- Where lane `x` of key head `g` lies in copy `h` of the doubled keys. -/
def keyCol (g h : Fin 2) (x : Fin 64) : Fin 256 := ⟨128 * g + 64 * h + x, by omega⟩

/-- A load of a block of 128 rows and columns, read at an index. -/
theorem block_at {Val : EltTy → Type} {e : EltTy} {N K : ℕ} (X : (⟨3, ![1, 128 * N, 128 * K]⟩ : Shape).Idx → Val e) (b : Fin N) (h : Fin K) (r d : Fin 128) :
    View.ld X (Rect.unit ![0, 128 * (b : ℕ), 128 * (h : ℕ)] ![1, 128, 128] (inb_block b h)) (ix3 0 r d)
      = X (ix3 0 ⟨128 * (b : ℕ) + r, by omega⟩ ⟨128 * (h : ℕ) + d, by omega⟩) := by
  refine congrArg X (funext fun a => Fin.ext ?_)
  match a with
  | 0 => rfl
  | 1 => show 128 * (b : ℕ) + 1 * (r : ℕ) = 128 * b + r; omega
  | 2 => show 128 * (h : ℕ) + 1 * (d : ℕ) = 128 * h + d; omega

/-- An index of a block of 128 rows and columns. -/
theorem exists_block (x : (⟨3, ![1, 128, 128]⟩ : Shape).Idx) : ∃ r d : Fin 128, x = ix3 0 r d := by
  refine ⟨x 1, x 2, (eq_ix3 x).trans (congrArg (fun a => ix3 a (x 1) (x 2)) (Fin.ext ?_))⟩
  have : (x 0 : ℕ) < 1 := (x 0).isLt
  show (x 0 : ℕ) = 0
  omega

/-- A head's sink. -/
theorem sinkOf_at (X : Vec Ideal S16 .f32) (n : Fin 16) : sinkOf X n = X (ix1 n) := by
  refine congrArg X (funext fun a => Fin.ext ?_)
  match a with
  | 0 => show (n : ℕ) + 1 * 0 = n; omega

/-- What is added to the scores of the block before: minus infinity where there is none. -/
theorem biasOf_eq (b : Fin 16) : biasOf b = if (b : ℕ) = 0 then (⊥ : EReal) else 0 := by
  unfold biasOf
  split
  · exact mask_eq
  · show Ideal.ofBits .f32 0x00000000#32 = 0
    simp

section
variable (X0 : Vec Ideal S16 .f32) (X1 : Vec Ideal S1x2048x1024 .f32) (X2 X3 : Vec Ideal S1x2048x256 .bf16) (kk vv : Fin 2048 → Fin 2 → Fin 64 → EReal)
  (hk : ∀ (s : Fin 2048) (g h : Fin 2) (x : Fin 64), X2 (ix3 0 s (keyCol g h x)) = kk s g x)
  (hv : ∀ (s : Fin 2048) (g h : Fin 2) (x : Fin 64), X3 (ix3 0 s (keyCol g h x)) = vv s g x)

include hk hv in
/-- A head's result, at the token and the column it is stored at. -/
theorem head_good (b : Fin 16) (h s : Fin 2) (j : Fin 4) (r d : Fin 128) (hd : (d : ℕ) / 64 = (j : ℕ) % 2) (y1 : Fin 2048) (y2 : Fin 1024)
    (h1 : (y1 : ℕ) = 128 * b + r) (h2 : (y2 : ℕ) = 128 * (4 * h + 2 * s + (j : ℕ) / 2) + d) (n : Fin 16) (hn : (n : ℕ) = 2 * (4 * h + 2 * s) + j) :
    headAt (folded (biasOf b) (scores (keysOf X2 (prev b) h) (keysOf X2 b h) (queriesOf X1 b (slabA h s)) (queriesOf X1 b (slabB h s))))
        (keysOf X3 (prev b) h) (keysOf X3 b h) (sinkOf X0 n) j r d
      = windowAt (fun s e => X1 (ix3 0 s e)) kk vv (fun n => X0 (ix1 n)) (y1) (y2) := by
  refine (headAt_eq ((b : ℕ) = 0) (biasOf b) (biasOf_eq b) _ _ _ _ _ _ _ j r d (fun c => kk ⟨128 * (prev b : ℕ) + c, by omega⟩ h) (fun c => kk ⟨128 * (b : ℕ) + c, by omega⟩ h)
    (fun i c x => ?_) (fun i c x => ?_)).trans ?_
  · refine (block_at X2 (prev b) h c _).trans ((congrArg (fun l => X2 (ix3 0 _ l)) (Fin.ext ?_)).trans (hk _ h i x))
    show 128 * (h : ℕ) + (64 * i + x) = 128 * h + 64 * i + x
    omega
  · refine (block_at X2 b h c _).trans ((congrArg (fun l => X2 (ix3 0 _ l)) (Fin.ext ?_)).trans (hk _ h i x))
    show 128 * (h : ℕ) + (64 * i + x) = 128 * h + 64 * i + x
    omega
  have hq : qrow (queriesOf X1 b (slabA h s)) (queriesOf X1 b (slabB h s)) j r = fun z : Fin 64 => X1 (ix3 0 (y1) (⟨64 * ((y2 : ℕ) / 64) + z, by omega⟩ : Fin 1024)) := by
    funext z
    unfold qrow
    match j, h2, hd with
    | 0, h2, hd =>
      refine (block_at X1 b (slabA h s) r _).trans (congrArg₂ (fun u v => X1 (ix3 0 u v)) (Fin.ext h1.symm) (Fin.ext ?_))
      show 128 * (4 * (h : ℕ) + 2 * s) + (64 * 0 + z) = 64 * ((y2 : ℕ) / 64) + z
      simp at h2 hd; omega
    | 1, h2, hd =>
      refine (block_at X1 b (slabA h s) r _).trans (congrArg₂ (fun u v => X1 (ix3 0 u v)) (Fin.ext h1.symm) (Fin.ext ?_))
      show 128 * (4 * (h : ℕ) + 2 * s) + (64 * 1 + z) = 64 * ((y2 : ℕ) / 64) + z
      simp at h2 hd; omega
    | 2, h2, hd =>
      refine (block_at X1 b (slabB h s) r _).trans (congrArg₂ (fun u v => X1 (ix3 0 u v)) (Fin.ext h1.symm) (Fin.ext ?_))
      show 128 * (4 * (h : ℕ) + 2 * s + 1) + (64 * 0 + z) = 64 * ((y2 : ℕ) / 64) + z
      simp at h2 hd; omega
    | 3, h2, hd =>
      refine (block_at X1 b (slabB h s) r _).trans (congrArg₂ (fun u v => X1 (ix3 0 u v)) (Fin.ext h1.symm) (Fin.ext ?_))
      show 128 * (4 * (h : ℕ) + 2 * s + 1) + (64 * 1 + z) = 64 * ((y2 : ℕ) / 64) + z
      simp at h2 hd; omega
  have e1 : (y1 : ℕ) % 128 = r := by omega
  have e2 : (y1 : ℕ) / 128 = b := by omega
  have e3 : (⟨(y2 : ℕ) / 512, by omega⟩ : Fin 2) = h := Fin.ext (by show (y2 : ℕ) / 512 = h; omega)
  have e4 : (⟨(y2 : ℕ) / 64, by omega⟩ : Fin 16) = n := Fin.ext (by show (y2 : ℕ) / 64 = n; omega)
  have hval : ∀ (b' : Fin 16) (c : Fin 128), keysOf X3 b' h (ix3 0 c d) = vv ⟨128 * (b' : ℕ) + c, by omega⟩ h (⟨(y2 : ℕ) % 64, by omega⟩ : Fin 64) := fun b' c => by
    refine (block_at X3 b' h c d).trans ((congrArg (fun l => X3 (ix3 0 _ l)) (Fin.ext ?_)).trans (hv _ h (⟨(d : ℕ) / 64, by omega⟩ : Fin 2) _))
    show 128 * (h : ℕ) + d = 128 * h + 64 * ((d : ℕ) / 64) + (y2 : ℕ) % 64
    omega
  unfold windowAt
  simp only [hq, hval, e3, e4, sinkOf_at, e1, e2]
  rfl

include hk hv in
/-- A store of the first pair of heads of a group. -/
theorem storeA_good (b : Fin 16) (h s : Fin 2) (x : (storeA X0 X1 X2 X3 b h s).1.shape.Idx) :
    (storeA X0 X1 X2 X3 b h s).2 x = windowAt (fun s e => X1 (ix3 0 s e)) kk vv (fun n => X0 (ix1 n)) ((storeA X0 X1 X2 X3 b h s).1.emb x 1) ((storeA X0 X1 X2 X3 b h s).1.emb x 2) := by
  obtain ⟨r, d, rfl⟩ : ∃ r d : Fin 128, x = ix3 0 r d := exists_block x
  refine (tileA_at _ _ _ _ _ _ _ _ _ _ _ r d).trans ?_
  split
  · refine head_good X0 X1 X2 X3 kk vv hk hv b h s 0 r d (by show (d : ℕ) / 64 = 0; assumption) _ _ ?_ ?_ (headE (slabA h s)) ?_
    · show 128 * (b : ℕ) + 1 * (r : ℕ) = _; omega
    · show 128 * (4 * (h : ℕ) + 2 * s) + 1 * (d : ℕ) = _; simp
    · show 2 * (4 * (h : ℕ) + 2 * s) = _; simp
  · refine head_good X0 X1 X2 X3 kk vv hk hv b h s 1 r d (by show (d : ℕ) / 64 = 1; omega) _ _ ?_ ?_ (headO (slabA h s)) ?_
    · show 128 * (b : ℕ) + 1 * (r : ℕ) = _; omega
    · show 128 * (4 * (h : ℕ) + 2 * s) + 1 * (d : ℕ) = _; simp
    · show 2 * (4 * (h : ℕ) + 2 * s) + 1 = _; simp

include hk hv in
/-- A store of the second pair of heads of a group. -/
theorem storeB_good (b : Fin 16) (h s : Fin 2) (x : (storeB X0 X1 X2 X3 b h s).1.shape.Idx) :
    (storeB X0 X1 X2 X3 b h s).2 x = windowAt (fun s e => X1 (ix3 0 s e)) kk vv (fun n => X0 (ix1 n)) ((storeB X0 X1 X2 X3 b h s).1.emb x 1) ((storeB X0 X1 X2 X3 b h s).1.emb x 2) := by
  obtain ⟨r, d, rfl⟩ : ∃ r d : Fin 128, x = ix3 0 r d := exists_block x
  refine (tileB_at _ _ _ _ _ _ _ _ _ _ _ r d).trans ?_
  split
  · refine head_good X0 X1 X2 X3 kk vv hk hv b h s 2 r d (by show (d : ℕ) / 64 = 0; assumption) _ _ ?_ ?_ (headE (slabB h s)) ?_
    · show 128 * (b : ℕ) + 1 * (r : ℕ) = _; omega
    · show 128 * (4 * (h : ℕ) + 2 * s + 1) + 1 * (d : ℕ) = _; simp
    · show 2 * (4 * (h : ℕ) + 2 * s + 1) = _; simp; omega
  · refine head_good X0 X1 X2 X3 kk vv hk hv b h s 3 r d (by show (d : ℕ) / 64 = 1; omega) _ _ ?_ ?_ (headO (slabB h s)) ?_
    · show 128 * (b : ℕ) + 1 * (r : ℕ) = _; omega
    · show 128 * (4 * (h : ℕ) + 2 * s + 1) + 1 * (d : ℕ) = _; simp
    · show 2 * (4 * (h : ℕ) + 2 * s + 1) + 1 = _; simp; omega

include hk hv in
/-- Every store of the blocks below `n`. -/
theorem stores_good (n : ℕ) (hn : n ≤ 16) : ∀ p ∈ stores X0 X1 X2 X3 n hn, ∀ x : p.1.shape.Idx,
    p.2 x = windowAt (fun s e => X1 (ix3 0 s e)) kk vv (fun n => X0 (ix1 n)) (p.1.emb x 1) (p.1.emb x 2) := by
  induction n with
  | zero => exact fun p hp => absurd hp List.not_mem_nil
  | succ n ih =>
    have A := storeA_good X0 X1 X2 X3 kk vv hk hv ⟨n, hn⟩
    have B := storeB_good X0 X1 X2 X3 kk vv hk hv ⟨n, hn⟩
    unfold stores storesOf
    simp only [List.forall_mem_cons]
    exact ⟨B 1 1, A 1 1, B 1 0, A 1 0, B 0 1, A 0 1, B 0 0, A 0 0, ih _⟩
end

end Cert.KernelIdeal.Attn
-- ==== Proof.AttnOut.lean ====
module

public import proofs.«01_k».proof.Proof.AttnPoint

/-! What one grid point of the attention call leaves in its output blocks, at an index. -/
set_option maxRecDepth 16384
@[expose] public noncomputable section
open Idealize.ShloMosaic Idealize.ShloMosaic.TcCoe Idealize.SL.Sem
open Idealize.ShloMosaic.Pipeline (Dat)
namespace Cert.KernelIdeal.Attn
open Cert.KernelIdeal Cert.KernelIdeal.Gen Cert.Attn
variable (m : (ℓ : Loc nD τ sig) → Buf (Elt Ideal) ℓ)

set_option maxHeartbeats 1000000 in
/-- The attention's output block: the window attention of the point's sequence. -/
theorem point10 (c : Dev nD) (t : Fin cfg0.N) (kk vv : Fin 2048 → Fin 2 → Fin 64 → EReal)
    (hk : ∀ (s : Fin 2048) (g h : Fin 2) (x : Fin 64), iblk m c 2 t (ix3 0 s (keyCol g h x)) = kk s g x)
    (hv : ∀ (s : Fin 2048) (g h : Fin 2) (x : Fin 64), iblk m c 3 t (ix3 0 s (keyCol g h x)) = vv s g x)
    (y : S1x2048x1024.Idx) :
    (outsAt0 m c t).1 y = windowAt (fun s e => iblk m c 1 t (ix3 0 s e)) kk vv (fun n => iblk m c 0 t (ix1 n)) (y 1) (y 2) := by
  have e := stores_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t)
  rw [(hs0_0 t).read_unread, (hs0_1 t).read_unread, (hs0_2 t).read_unread, (hs0_3 t).read_unread] at e
  have h := cover0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) y
  refine (View.read_writes_apply_eq_canon VO0_10 _ y _ h).trans ?_
  rw [e] at h ⊢
  exact View.canon_apply_of_pieces (fun y => windowAt (fun s e => iblk m c 1 t (ix3 0 s e)) kk vv (fun n => iblk m c 0 t (ix1 n)) (y 1) (y 2)) _
    (stores_good (iblk m c 0 t) (iblk m c 1 t) (iblk m c 2 t) (iblk m c 3 t) kk vv hk hv 16 (le_refl 16)) y h

end Cert.KernelIdeal.Attn
-- ==== Proof.AttnBlocks.lean ====
module

public import proofs.«01_k».proof.Proof.AttnOut
public import proofs.«01_k».proof.Proof.Gen.KernelIdeal.Value
public import Idealize.ShloMosaic.Lib.Pipeline.ValueKit
public import Idealize.ShloMosaic.Lib.Pointwise
public import Idealize.ShloMosaic.Lib.Claim

/-! The attention call's input blocks at a grid point, read at an index, in terms of the program's arguments. -/
set_option maxRecDepth 16384
@[expose] public noncomputable section
open Idealize.ShloMosaic Idealize.ShloMosaic.TcCoe Idealize.SL.Sem
open Idealize.ShloMosaic.Pipeline (Dat)
namespace Cert.KernelIdeal.Attn
open Cert.KernelIdeal Cert.KernelIdeal.Gen Cert.Attn
variable (m : (ℓ : Loc nD τ sig) → Buf (Elt Ideal) ℓ)

/-- The block every window has at a grid point: the point's sequence, or its part of a weight's rows. -/
theorem idx : ∀ t : Fin cfg0.N, t.val < 16 ∧ win0_0.index t = ![0] ∧ win0_1.index t = ![t.val, 0, 0] ∧ win0_2.index t = ![t.val, 0, 0] ∧ win0_3.index t = ![t.val, 0, 0] ∧ win0_10.index t = ![t.val, 0, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] :=
  (by decide +kernel : ∀ t : Fin grid0.N, _)

/-- The sequence of a grid point. -/
abbrev seqOf (t : Fin cfg0.N) : Fin 16 := ⟨t.val, (idx t).1⟩

/-- The sinks, whole at every grid point. -/
theorem blk0 (c : Dev nD) (t : Fin cfg0.N) (n : Fin 16) : iblk m c 0 t (ix1 n) = m ((c : Thread nD τ).loc main_arg3) (ix1 n) := by
  blk_ext [iblk, V, idx t]
/-- The queries of the grid point's sequence, a head's lanes beside each other. -/
theorem blk1 (c : Dev nD) (t : Fin cfg0.N) (s : Fin 2048) (e : Fin 1024) : iblk m c 1 t (ix3 0 s e) = m ((c : Thread nD τ).loc main_arg0) (ix4 (seqOf t) s ⟨(e : ℕ) / 64, by omega⟩ ⟨(e : ℕ) % 64, by omega⟩) := by
  blk_simp [iblk, idx t]; entry_read; pointwise; blk_ext [idx t]
/-- The columns of one key head. -/
def part0 (X : Vec Ideal S16x2048x2x64 .f32) : Vec Ideal S16x2048x64 .f32 :=
  shapeCast S16x2048x64 (extractStridedSlice S16x2048x1x64 ![0, 0, 0, 0] X slices_S16x2048x2x64_S16x2048x1x64_0_0_0_0) shapeCasts_S16x2048x1x64_S16x2048x64
/-- The columns of the other key head. -/
def part1 (X : Vec Ideal S16x2048x2x64 .f32) : Vec Ideal S16x2048x64 .f32 :=
  shapeCast S16x2048x64 (extractStridedSlice S16x2048x1x64 ![0, 0, 1, 0] X slices_S16x2048x2x64_S16x2048x1x64_0_0_1_0) shapeCasts_S16x2048x1x64_S16x2048x64
/-- Each key head's columns twice. -/
def doubled (X : Vec Ideal S16x2048x2x64 .f32) : Vec Ideal S16x2048x256 .bf16 :=
  truncf (F := Ideal) .bf16 (concatenate S16x2048x256 2 [⟨S16x2048x64, part0 X⟩, ⟨S16x2048x64, part0 X⟩, ⟨S16x2048x64, part1 X⟩, ⟨S16x2048x64, part1 X⟩]
    concatenates_S16x2048x64_S16x2048x64_S16x2048x64_S16x2048x64_S16x2048x256_d2 : (⟨S16x2048x256, .f32⟩ : BufTy).Contents (Elt Ideal)) bitsLt_bf16_f32

/-- Both copies of a key head's columns hold the key head. -/
theorem doubled_at (X : Vec Ideal S16x2048x2x64 .f32) (b : Fin 16) (s : Fin 2048) (g h : Fin 2) (x : Fin 64) : doubled X (ix3 b s (keyCol g h x)) = X (ix4 b s g x) := by
  unfold doubled part0 part1
  pointwise
  have hv : (keyCol g h x : ℕ) = 128 * g + 64 * h + x := rfl
  split
  · exact congrArg₂ (fun a d => X (ix4 b s a d)) (Fin.ext (by show 0 = (g : ℕ); omega)) (Fin.ext (by show (keyCol g h x : ℕ) = x; omega))
  · split
    · exact congrArg₂ (fun a d => X (ix4 b s a d)) (Fin.ext (by show 0 = (g : ℕ); omega)) (Fin.ext (by show (keyCol g h x : ℕ) - 64 = x; omega))
    · split
      · exact congrArg₂ (fun a d => X (ix4 b s a d)) (Fin.ext (by show 1 = (g : ℕ); omega)) (Fin.ext (by show (keyCol g h x : ℕ) - 64 - 64 = x; omega))
      · exact congrArg₂ (fun a d => X (ix4 b s a d)) (Fin.ext (by show 1 = (g : ℕ); omega)) (Fin.ext (by show (keyCol g h x : ℕ) - 64 - 64 - 64 = x; omega))

/-- The keys that the call reads: doubled. -/
theorem entry_keys (c : Dev nD) : V m c main_v10 = doubled (m ((c : Thread nD τ).loc main_arg1)) := by
  sl_kernel_rfl
/-- The values that the call reads: doubled. -/
theorem entry_values (c : Dev nD) : V m c main_v20 = doubled (m ((c : Thread nD τ).loc main_arg2)) := by
  sl_kernel_rfl

/-- The keys of the grid point's sequence. -/
theorem blk2 (c : Dev nD) (t : Fin cfg0.N) (s : Fin 2048) (g h : Fin 2) (x : Fin 64) :
    iblk m c 2 t (ix3 0 s (keyCol g h x)) = m ((c : Thread nD τ).loc main_arg1) (ix4 (seqOf t) s g x) := by
  blk_simp [iblk, idx t]
  rw [entry_keys]
  refine Eq.trans ?_ (doubled_at (m ((c : Thread nD τ).loc main_arg1)) (seqOf t) s g h x)
  blk_ext [idx t]
/-- The values of the grid point's sequence. -/
theorem blk3 (c : Dev nD) (t : Fin cfg0.N) (s : Fin 2048) (g h : Fin 2) (x : Fin 64) :
    iblk m c 3 t (ix3 0 s (keyCol g h x)) = m ((c : Thread nD τ).loc main_arg2) (ix4 (seqOf t) s g x) := by
  blk_simp [iblk, idx t]
  rw [entry_values]
  refine Eq.trans ?_ (doubled_at (m ((c : Thread nD τ).loc main_arg2)) (seqOf t) s g h x)
  blk_ext [idx t]

/-- The window attention of the program's arguments on core `c`, at a sequence, a token and a column. -/
def attended (c : Dev nD) (b : Fin 16) : Fin 2048 → Fin 1024 → EReal :=
  windowAt (fun s e => m ((c : Thread nD τ).loc main_arg0) (ix4 b s ⟨(e : ℕ) / 64, by omega⟩ ⟨(e : ℕ) % 64, by omega⟩))
    (fun s g x => m ((c : Thread nD τ).loc main_arg1) (ix4 b s g x)) (fun s g x => m ((c : Thread nD τ).loc main_arg2) (ix4 b s g x))
    (fun n => m ((c : Thread nD τ).loc main_arg3) (ix1 n))

/-- After the run the attention's array holds every token's window attention. -/
theorem final10 (c : Dev nD) : (dats m 0 c).arrAt 10 (cfgs 0).N = fun i => attended m c (i 0) (i 1) (i 2) := by
  refine (dats m 0 c).arrAt_eq_of_covers 10 _ (by decide +kernel) fun t hf y => ?_
  blk_simp
  rw [after0_10]
  refine (point10 m c t _ _ (blk2 m c t) (blk3 m c t) y).trans ?_
  simp only [blk0, blk1]
  show attended m c (seqOf t) (y 1) (y 2) = _
  have h0 : (y 0 : ℕ) < 1 := (y 0).isLt
  refine congr (congrArg₂ (attended m c) (Fin.ext ?_) (Fin.ext ?_)) (Fin.ext ?_)
  all_goals blk_simp [idx t]

/-- The gates' columns of the input weight's part at a grid point. -/
theorem blk4 (c : Dev nD) (t : Fin cfg0.N) (r : Fin 64) (d : Fin 2048) :
    View.ld (iblk m c 4 t) (Rect.unit ![0, 5888] ![64, 2048] inb_S64x7936_S64x2048_0_5888) (ix2 r d)
      = m ((c : Thread nD τ).loc main_arg4) (ix2 ⟨t.val * 64 + r, by have := (idx t).1; omega⟩ ⟨5888 + d, by omega⟩) := by
  have e : View.ld (iblk m c 4 t) (Rect.unit ![0, 5888] ![64, 2048] inb_S64x7936_S64x2048_0_5888) (ix2 r d)
      = iblk m c 4 t (ix2 r ⟨5888 + (d : ℕ), by omega⟩) := by
    refine congrArg (iblk m c 4 t) (funext fun a => Fin.ext ?_)
    match a with
    | 0 => show 0 + 1 * (r : ℕ) = r; omega
    | 1 => show 5888 + 1 * (d : ℕ) = 5888 + d; omega
  refine e.trans ?_
  blk_ext [iblk, V, idx t]
/-- After the run the cast weight's array holds the weight. -/
theorem final11 (c : Dev nD) : (dats m 0 c).arrAt 11 (cfgs 0).N = fun i => m ((c : Thread nD τ).loc main_arg4) (ix2 (i 0) ⟨5888 + (i 1 : ℕ), by have : (i 1 : ℕ) < 2048 := (i 1).isLt; omega⟩) := by
  refine (dats m 0 c).arrAt_eq_of_covers 11 _ (by decide +kernel) fun t hf y => ?_
  blk_simp
  rw [after0_11]
  unfold outsAt0
  frame_out
  refine (congrArg (View.ld (iblk m c 4 t) (Rect.unit ![0, 5888] ![64, 2048] inb_S64x7936_S64x2048_0_5888)) (eq_ix2 y)).trans ((blk4 m c t (y 0) (y 1)).trans ?_)
  blk_ext [idx t]
/-- After the run the cast weight's array holds the weight. -/
theorem final12 (c : Dev nD) : (dats m 0 c).arrAt 12 (cfgs 0).N = fun i => m ((c : Thread nD τ).loc main_arg5) (i) := by
  refine (dats m 0 c).arrAt_eq_of_covers 12 _ (by decide +kernel) fun t hf y => ?_
  blk_simp
  rw [after0_12]
  unfold outsAt0
  frame_out
  show iblk m c 5 t y = _
  blk_ext [iblk, V, idx t]
/-- After the run the cast weight's array holds the weight. -/
theorem final13 (c : Dev nD) : (dats m 0 c).arrAt 13 (cfgs 0).N = fun i => m ((c : Thread nD τ).loc main_arg6) (i) := by
  refine (dats m 0 c).arrAt_eq_of_covers 13 _ (by decide +kernel) fun t hf y => ?_
  blk_simp
  rw [after0_13]
  unfold outsAt0
  frame_out
  show iblk m c 6 t y = _
  blk_ext [iblk, V, idx t]
/-- After the run the cast weight's array holds the weight. -/
theorem final14 (c : Dev nD) : (dats m 0 c).arrAt 14 (cfgs 0).N = fun i => m ((c : Thread nD τ).loc main_arg7) (i) := by
  refine (dats m 0 c).arrAt_eq_of_covers 14 _ (by decide +kernel) fun t hf y => ?_
  blk_simp
  rw [after0_14]
  unfold outsAt0
  frame_out
  show iblk m c 7 t y = _
  blk_ext [iblk, V, idx t]
/-- After the run the cast weight's array holds the weight. -/
theorem final15 (c : Dev nD) : (dats m 0 c).arrAt 15 (cfgs 0).N = fun i => m ((c : Thread nD τ).loc main_arg8) (i) := by
  refine (dats m 0 c).arrAt_eq_of_covers 15 _ (by decide +kernel) fun t hf y => ?_
  blk_simp
  rw [after0_15]
  unfold outsAt0
  frame_out
  show iblk m c 8 t y = _
  blk_ext [iblk, V, idx t]
/-- After the run the cast weight's array holds the weight. -/
theorem final16 (c : Dev nD) : (dats m 0 c).arrAt 16 (cfgs 0).N = fun i => m ((c : Thread nD τ).loc main_arg9) (i) := by
  refine (dats m 0 c).arrAt_eq_of_covers 16 _ (by decide +kernel) fun t hf y => ?_
  blk_simp
  rw [after0_16]
  unfold outsAt0
  frame_out
  show iblk m c 9 t y = _
  blk_ext [iblk, V, idx t]

end Cert.KernelIdeal.Attn
-- ==== Proof.AttnReference.lean ====
module

public import proofs.«01_k».proof.Proof.AttnPoint
public import proofs.«01_k».proof.Proof.Gen.ReferenceIdeal.Read
public import Idealize.ShloMosaic.Lib.Pointwise

/-! The reference's attention, line by line, is the window attention. -/
set_option maxRecDepth 16384
@[expose] public noncomputable section
open Idealize.ShloMosaic Idealize.ShloMosaic.TcCoe
namespace Cert.ReferenceIdeal.Attn
open Cert.ReferenceIdeal Cert.ReferenceIdeal.Gen Cert.ReferenceIdeal.Read Cert.Attn Cert.KernelIdeal.Attn
variable (x0 : (⟨S16x2048x16x64, .f32⟩ : BufTy).Contents (Elt Ideal)) (x1 x2 : (⟨S16x2048x2x64, .f32⟩ : BufTy).Contents (Elt Ideal)) (x3 : (⟨S16, .f32⟩ : BufTy).Contents (Elt Ideal))

/-- The keys with a block of zeros before. -/
theorem pad_at (b : Fin 16) (p : Fin 2176) (h : Fin 2) (d : Fin 64) :
    val_main_v1 (F := Ideal) x1 (ix4 b p h d) = if q : 128 ≤ (p : ℕ) then x1 (ix4 b ⟨p - 128, by omega⟩ h d) else 0 := by
  unfold val_main_v1
  pointwise
  have e : (val_main_call0_v0 (F := Ideal) (Shape.Idx.first h_S_) : EReal) = 0 := by
    show FloatOps.sitofp (F := Ideal) .f32 (0#32) = (0 : EReal)
    show ((((0#32 : BitVec 32).toInt : ℤ) : ℝ) : EReal) = 0
    norm_num
  split
  · rename_i q
    rw [dif_pos q.1]
  · rename_i q
    rw [dif_neg (fun h => q ⟨h, by omega⟩), e]

/-- The window's keys are the padded keys' rows. -/
theorem keys_at (b n : Fin 16) (k : Fin 256) (h : Fin 2) (d : Fin 64) :
    val_main_v8 (F := Ideal) x1 (ix5 b n k h d) = val_main_v1 (F := Ideal) x1 (ix4 b ⟨128 * n + k, by omega⟩ h d) := by
  unfold val_main_v8 val_main_v6 val_main_v7 val_main_v4
  generalize val_main_v1 (F := Ideal) x1 = y
  pointwise
  split
  · exact congrArg (fun p => y (ix4 b p h d)) (Fin.ext (by show (n : ℕ) * 128 + k = 128 * n + k; omega))
  · exact congrArg (fun p => y (ix4 b p h d)) (Fin.ext (by show (1 + (n : ℕ)) * 128 + (k - 128) = 128 * n + k; omega))

/-- The queries' layout. -/
theorem query_at (b n : Fin 16) (r : Fin 128) (h : Fin 2) (g : Fin 8) (d : Fin 64) :
    val_main_v3 (F := Ideal) x0 (ix6 b n r h g d) = x0 (ix4 b ⟨128 * n + r, by omega⟩ ⟨8 * h + g, by omega⟩ d) := by
  unfold val_main_v3 val_main_v0
  pointwise
  exact congrArg₂ (fun p q => x0 (ix4 b p q d)) (Fin.ext (by show (n : ℕ) * 128 + r = 128 * n + r; omega)) (Fin.ext (by show (h : ℕ) * 8 + g = 8 * h + g; omega))

/-- The band: a key is at most 127 tokens before its query and not after it. -/
theorem band_at (r : Fin 128) (k : Fin 256) : val_main_v39 (F := Ideal) (ix2 r k) = if (k : ℕ) ≤ r + 128 ∧ (r : ℕ) < k then 1#1 else 0#1 := by
  simp only [val_main_v39_apply, val_main_v38_apply, val_main_v37_apply, val_main_v36_apply, val_main_v35_apply, val_main_v24_apply, val_main_v23_apply, val_main_v22_apply, val_main_v21_apply, val_main_v20_apply, val_main_v19_apply, val_main_v18_apply, val_main_v17_apply, val_main_v16_apply, val_main_c_1_apply, val_main_c_4_apply, val_main_c_5_apply]
  show IntOp.andi (IntOp.cmpi .sge (IntOp.subi (IntOp.addi (BitVec.ofNat 32 (r : ℕ)) 128#32) (BitVec.ofNat 32 (k : ℕ))) 0#32) (IntOp.cmpi .sle (IntOp.subi (IntOp.addi (BitVec.ofNat 32 (r : ℕ)) 128#32) (BitVec.ofNat 32 (k : ℕ))) 127#32) = _
  revert r k
  decide +kernel

/-- The other half of the mask: a key is not in the padding. -/
theorem pos_at (n : Fin 16) (k : Fin 256) : val_main_v41 (F := Ideal) (ix3 n 0 k) = if 128 ≤ 128 * (n : ℕ) + k then 1#1 else 0#1 := by
  simp only [val_main_v41_apply, val_main_v40_apply, val_main_v34_apply, val_main_v33_apply, val_main_v32_apply, val_main_v31_apply, val_main_v30_apply, val_main_v29_apply, val_main_v28_apply, val_main_v27_apply, val_main_v26_apply, val_main_v25_apply, val_main_v19_apply, val_main_v18_apply, val_main_c_2_apply, val_main_c_3_apply, val_main_c_6_apply]
  show IntOp.cmpi .sge (IntOp.subi (IntOp.addi (IntOp.muli (BitVec.ofNat 32 (n : ℕ)) 128#32) (BitVec.ofNat 32 (k : ℕ))) 128#32) 0#32 = _
  revert n k
  decide +kernel

/-- The window's values are the padded values' rows. -/
theorem values_at (b n : Fin 16) (k : Fin 256) (h : Fin 2) (d : Fin 64) :
    val_main_v11 (F := Ideal) x2 (ix5 b n k h d) = val_main_v2 (F := Ideal) x2 (ix4 b ⟨128 * n + k, by omega⟩ h d) := by
  unfold val_main_v11 val_main_v9 val_main_v10 val_main_v5
  generalize val_main_v2 (F := Ideal) x2 = y
  pointwise
  split
  · exact congrArg (fun p => y (ix4 b p h d)) (Fin.ext (by show (n : ℕ) * 128 + k = 128 * n + k; omega))
  · exact congrArg (fun p => y (ix4 b p h d)) (Fin.ext (by show (1 + (n : ℕ)) * 128 + (k - 128) = 128 * n + k; omega))

/-- The values with a block of zeros before. -/
theorem vpad_at (b : Fin 16) (p : Fin 2176) (h : Fin 2) (d : Fin 64) :
    val_main_v2 (F := Ideal) x2 (ix4 b p h d) = if q : 128 ≤ (p : ℕ) then x2 (ix4 b ⟨p - 128, by omega⟩ h d) else 0 := by
  unfold val_main_v2
  pointwise
  have e : (val_main_call1_v0 (F := Ideal) (Shape.Idx.first h_S_) : EReal) = 0 := by
    show ((((0#32 : BitVec 32).toInt : ℤ) : ℝ) : EReal) = 0
    norm_num
  split
  · rename_i q
    rw [dif_pos q.1]
  · rename_i q
    rw [dif_neg (fun h => q ⟨h, by omega⟩), e]

/-- The literal for minus infinity. -/
theorem ninf : (FloatOps.ofBits (F := Ideal) .f32 0xFF800000#32 : EReal) = ⊥ := by
  show Ideal.ofBits .f32 0xFF800000#32 = ⊥
  simp [Ideal.ofBits, Ideal.ieee]

/-- The scores' scale. -/
theorem eighth : (FloatOps.ofBits (F := Ideal) .f32 0x3E000000#32 : EReal) = ((0.125 : ℝ) : EReal) := by
  show Ideal.ofBits .f32 0x3E000000#32 = ((0.125 : ℝ) : EReal)
  simp [Ideal.ofBits, Ideal.ieee]
  norm_num
  rw [← EReal.coe_mul]
  norm_num

/-- A score of the reference under its mask: `k` counts the keys from the block before the query's. -/
def refScore (b n : Fin 16) (h : Fin 2) (g : Fin 8) (r : Fin 128) (k : Fin 256) : EReal :=
  if ((k : ℕ) ≤ r + 128 ∧ (r : ℕ) < k) ∧ 128 ≤ 128 * (n : ℕ) + k then
    score (fun d => x0 (ix4 b ⟨128 * n + r, by omega⟩ ⟨8 * h + g, by omega⟩ d)) (fun d => val_main_v1 (F := Ideal) x1 (ix4 b ⟨128 * n + k, by omega⟩ h d)) else ⊥

/-- The mask at a query and a key. -/
theorem mask_at (b n : Fin 16) (h : Fin 2) (g : Fin 8) (r : Fin 128) (k : Fin 256) :
    val_main_call2_v1 (F := Ideal) (ix6 b n h g r k) = if ((k : ℕ) ≤ r + 128 ∧ (r : ℕ) < k) ∧ 128 ≤ 128 * (n : ℕ) + k then 1#1 else 0#1 := by
  rw [val_main_call2_v1_apply, val_main_v46_apply, val_main_v45_apply, val_main_v43_apply, val_main_v44_apply, val_main_v42_apply]
  have e1 : idx_main_v42 (idx_main_v43 (idx_main_v46 (idx_main_call2_v1 (ix6 b n h g r k)))) = ix2 r k :=
    funext fun a => Fin.ext (by match a with | ⟨0, _⟩ => rfl | ⟨1, _⟩ => rfl)
  have e2 : idx_main_v44 (idx_main_v46 (idx_main_call2_v1 (ix6 b n h g r k))) = ix3 n 0 k :=
    funext fun a => Fin.ext (by match a with | ⟨0, _⟩ => rfl | ⟨1, _⟩ => rfl | ⟨2, _⟩ => rfl)
  rw [e1, e2, band_at, pos_at]
  by_cases h1 : (k : ℕ) ≤ r + 128 ∧ (r : ℕ) < k <;> by_cases h2 : 128 ≤ 128 * (n : ℕ) + k
  · rw [if_pos h1, if_pos h2, if_pos ⟨h1, h2⟩]; rfl
  · rw [if_pos h1, if_neg h2, if_neg fun q => h2 q.2]; rfl
  · rw [if_neg h1, if_pos h2, if_neg fun q => h1 q.1]; rfl
  · rw [if_neg h1, if_neg h2, if_neg fun q => h1 q.1]; rfl

/-- The masked scores. -/
theorem scores_at (b n : Fin 16) (h : Fin 2) (g : Fin 8) (r : Fin 128) (k : Fin 256) :
    val_main_v47 (F := Ideal) x0 x1 (ix6 b n h g r k) = refScore x0 x1 b n h g r k := by
  rw [val_main_v47_apply, mask_at, val_main_call2_v2_apply, val_main_call2_v0_apply, val_main_cst_7_apply, ninf, val_main_v15_apply,
    val_main_v13_apply, val_main_v12_apply, val_main_v14_apply, val_main_cst_apply, eighth]
  unfold refScore
  split
  · refine Eq.trans (b := (∑ d : Fin 64, val_main_v8 (F := Ideal) x1 (lidx_main_v12 (idx_main_v13 (ix6 b n h g r k)) d) * val_main_v3 (F := Ideal) x0 (ridx_main_v12 (idx_main_v13 (ix6 b n h g r k)) d)) * ((0.125 : ℝ) : EReal)) rfl ?_
    refine congrArg (· * ((0.125 : ℝ) : EReal)) (Finset.sum_congr rfl fun d _ => ?_)
    have e1 : lidx_main_v12 (idx_main_v13 (ix6 b n h g r k)) d = ix5 b n k h d :=
      funext fun a => Fin.ext (by match a with | ⟨0, _⟩ => rfl | ⟨1, _⟩ => rfl | ⟨2, _⟩ => rfl | ⟨3, _⟩ => rfl | ⟨4, _⟩ => rfl)
    have e2 : ridx_main_v12 (idx_main_v13 (ix6 b n h g r k)) d = ix6 b n r h g d :=
      funext fun a => Fin.ext (by match a with | ⟨0, _⟩ => rfl | ⟨1, _⟩ => rfl | ⟨2, _⟩ => rfl | ⟨3, _⟩ => rfl | ⟨4, _⟩ => rfl | ⟨5, _⟩ => rfl)
    rw [e1, e2, keys_at, query_at, mul_comm]
  · rfl

/-- A query's sink. -/
theorem sink_at (n : Fin 16) (b : Fin 16) (h : Fin 2) (g : Fin 8) (r : Fin 128) :
    val_main_v50 (F := Ideal) x3 (idx_main_v51 (ix5 b n h g r)) = x3 (ix1 ⟨8 * h + g, by omega⟩) := by
  rw [val_main_v50_apply, val_main_v49_apply]
  exact congrArg x3 (funext fun a => Fin.ext (by match a with | ⟨0, _⟩ => show (h : ℕ) * 8 + g = 8 * h + g; omega))

/-- A row's greatest score. -/
theorem max_at (b n : Fin 16) (h : Fin 2) (g : Fin 8) (r : Fin 128) :
    val_main_v48 (F := Ideal) x0 x1 (ix5 b n h g r) = rowMax (refScore x0 x1 b n h g r) := by
  have hs : ∀ k, val_main_v47 (F := Ideal) x0 x1 (ix6 b n h g r k) = refScore x0 x1 b n h g r k := scores_at x0 x1 b n h g r
  unfold val_main_v48
  generalize val_main_v47 (F := Ideal) x0 x1 = y at hs ⊢
  refine (Host.reduce_eq_fold_single _ y _ reducesTo_S16x16x2x8x128x256_S16x16x2x8x128_d5 (by decide) h_S_ (ix5 b n h g r)).trans ?_
  rw [val_main_cst_8_apply, ninf]
  refine congrArg (Finset.univ.fold max ⊥) (funext fun k => ?_)
  refine Eq.trans (congrArg y ?_) (hs k)
  exact funext fun a => Fin.ext (by match a with | ⟨0, _⟩ => rfl | ⟨1, _⟩ => rfl | ⟨2, _⟩ => rfl | ⟨3, _⟩ => rfl | ⟨4, _⟩ => rfl | ⟨5, _⟩ => rfl)

/-- The greatest of a row's scores and its sink. -/
def refMax (b n : Fin 16) (h : Fin 2) (g : Fin 8) (r : Fin 128) : EReal :=
  max (rowMax (refScore x0 x1 b n h g r)) (x3 (ix1 ⟨8 * h + g, by omega⟩))

/-- The greatest the reference subtracts. -/
theorem top_at (b n : Fin 16) (h : Fin 2) (g : Fin 8) (r : Fin 128) :
    val_main_v52 (F := Ideal) x0 x1 x3 (ix5 b n h g r) = refMax x0 x1 x3 b n h g r := by
  rw [val_main_v52_apply, max_at, val_main_v51_apply, sink_at]
  rfl

/-- A weight before the division. -/
theorem weight_at (b n : Fin 16) (h : Fin 2) (g : Fin 8) (r : Fin 128) (k : Fin 256) :
    val_main_v56 (F := Ideal) x0 x1 x3 (ix6 b n h g r k) = Ideal.exp (refScore x0 x1 b n h g r k - refMax x0 x1 x3 b n h g r) := by
  rw [val_main_v56_apply, val_main_v55_apply, scores_at, val_main_v54_apply, val_main_v53_apply]
  have e : idx_main_v53 (idx_main_v54 (ix6 b n h g r k)) = ix5 b n h g r :=
    funext fun a => Fin.ext (by match a with | ⟨0, _⟩ => rfl | ⟨1, _⟩ => rfl | ⟨2, _⟩ => rfl | ⟨3, _⟩ => rfl | ⟨4, _⟩ => rfl)
  rw [e, top_at]
  rfl

/-- The weights' sum. -/
theorem total_at (b n : Fin 16) (h : Fin 2) (g : Fin 8) (r : Fin 128) :
    val_main_v61 (F := Ideal) x0 x1 x3 (ix5 b n h g r)
      = (∑ k, Ideal.exp (refScore x0 x1 b n h g r k - refMax x0 x1 x3 b n h g r)) + Ideal.exp (x3 (ix1 ⟨8 * h + g, by omega⟩) - refMax x0 x1 x3 b n h g r) := by
  rw [val_main_v61_apply, val_main_v57_apply, val_main_cst_9_apply, val_main_v60_apply, val_main_v59_apply, val_main_v58_apply, top_at]
  have z : (FloatOps.ofBits (F := Ideal) .f32 0x00000000#32 : EReal) = 0 := by
    show Ideal.ofBits .f32 0x00000000#32 = 0
    simp
  have hk : ∀ k, val_main_v56 (F := Ideal) x0 x1 x3 (idx_main_v57 (ix5 b n h g r) k) = Ideal.exp (refScore x0 x1 b n h g r k - refMax x0 x1 x3 b n h g r) := fun k =>
    (congrArg (val_main_v56 (F := Ideal) x0 x1 x3) (funext fun a => Fin.ext (by match a with | ⟨0, _⟩ => rfl | ⟨1, _⟩ => rfl | ⟨2, _⟩ => rfl | ⟨3, _⟩ => rfl | ⟨4, _⟩ => rfl | ⟨5, _⟩ => rfl))).trans
      (weight_at x0 x1 x3 b n h g r k)
  rw [z, Finset.sum_congr rfl fun k _ => hk k, zero_add]
  have es : val_main_v50 (F := Ideal) x3 (idx_main_v58 (ix5 b n h g r)) = x3 (ix1 ⟨8 * h + g, by omega⟩) := sink_at x3 n b h g r
  rw [es]
  rfl

/-- A result of the reference's attention in its own layout. -/
theorem head_at (b n : Fin 16) (r : Fin 128) (h : Fin 2) (g : Fin 8) (d : Fin 64) :
    val_main_v67 (F := Ideal) x0 x1 x2 x3 (ix6 b n r h g d)
      = Ideal.div (∑ k : Fin 256, Ideal.exp (refScore x0 x1 b n h g r k - refMax x0 x1 x3 b n h g r) * val_main_v2 (F := Ideal) x2 (ix4 b ⟨128 * n + k, by omega⟩ h d))
          ((∑ k, Ideal.exp (refScore x0 x1 b n h g r k - refMax x0 x1 x3 b n h g r)) + Ideal.exp (x3 (ix1 ⟨8 * h + g, by omega⟩) - refMax x0 x1 x3 b n h g r)) := by
  rw [val_main_v67_apply, val_main_v66_apply, val_main_v65_apply, val_main_v64_apply, val_main_v63_apply, val_main_v62_apply]
  have e1 : idx_main_v64 (idx_main_v65 (idx_main_v66 (ix6 b n r h g d))) = ix5 b n h g r :=
    funext fun a => Fin.ext (by match a with | ⟨0, _⟩ => rfl | ⟨1, _⟩ => rfl | ⟨2, _⟩ => rfl | ⟨3, _⟩ => rfl | ⟨4, _⟩ => rfl)
  rw [e1, total_at]
  refine congrArg (fun y => Ideal.div y _) (Finset.sum_congr rfl fun k _ => ?_)
  have e2 : lidx_main_v62 (idx_main_v63 (ix6 b n r h g d)) k = ix5 b n k h d :=
    funext fun a => Fin.ext (by match a with | ⟨0, _⟩ => rfl | ⟨1, _⟩ => rfl | ⟨2, _⟩ => rfl | ⟨3, _⟩ => rfl | ⟨4, _⟩ => rfl)
  have e3 : ridx_main_v62 (idx_main_v63 (ix6 b n r h g d)) k = ix6 b n h g r k :=
    funext fun a => Fin.ext (by match a with | ⟨0, _⟩ => rfl | ⟨1, _⟩ => rfl | ⟨2, _⟩ => rfl | ⟨3, _⟩ => rfl | ⟨4, _⟩ => rfl | ⟨5, _⟩ => rfl)
  rw [e2, e3, values_at, weight_at, mul_comm]

/-- The same over the window's two halves. -/
theorem halves_at (b n : Fin 16) (r : Fin 128) (h : Fin 2) (g : Fin 8) (d : Fin 64) :
    val_main_v67 (F := Ideal) x0 x1 x2 x3 (ix6 b n r h g d)
      = sinkHead (fun c => refScore x0 x1 b n h g r ⟨c, by omega⟩) (fun c => refScore x0 x1 b n h g r ⟨128 + c, by omega⟩)
          (fun c => val_main_v2 (F := Ideal) x2 (ix4 b ⟨128 * n + c, by omega⟩ h d)) (fun c => val_main_v2 (F := Ideal) x2 (ix4 b ⟨128 * n + (128 + c), by omega⟩ h d))
          (x3 (ix1 ⟨8 * h + g, by omega⟩)) := by
  rw [head_at, sum_halves, sum_halves]
  unfold refMax
  rw [rowMax_halves]
  rfl

/-- The result's layout. -/
theorem out_at (b : Fin 16) (s : Fin 2048) (e : Fin 1024) : val_main_v70 (F := Ideal) x0 x1 x2 x3 (ix3 b s e)
    = val_main_v67 (F := Ideal) x0 x1 x2 x3 (ix6 b ⟨(s : ℕ) / 128, by omega⟩ ⟨(s : ℕ) % 128, by omega⟩ ⟨(e : ℕ) / 512, by omega⟩ ⟨(e : ℕ) / 64 % 8, by omega⟩ ⟨(e : ℕ) % 64, by omega⟩) := by
  unfold val_main_v70 val_main_v69 val_main_v68
  generalize val_main_v67 (F := Ideal) x0 x1 x2 x3 = y
  pointwise

/-- The reference's attention is the window attention. -/
theorem window_at (b : Fin 16) (s : Fin 2048) (e : Fin 1024) : val_main_v70 (F := Ideal) x0 x1 x2 x3 (ix3 b s e)
    = windowAt (fun s e => x0 (ix4 b s ⟨(e : ℕ) / 64, by omega⟩ ⟨(e : ℕ) % 64, by omega⟩)) (fun s g x => x1 (ix4 b s g x)) (fun s g x => x2 (ix4 b s g x)) (fun n => x3 (ix1 n)) s e := by
  rw [out_at, halves_at]
  have hs : (s : ℕ) < 2048 := s.isLt
  have he : (e : ℕ) < 1024 := e.isLt
  have hd : 8 * ((e : ℕ) / 512) + (e : ℕ) / 64 % 8 = (e : ℕ) / 64 := by omega
  have ha : 128 * ((s : ℕ) / 128) + (s : ℕ) % 128 = s := by omega
  have hq : (fun d => x0 (ix4 b ⟨128 * ((⟨(s : ℕ) / 128, by omega⟩ : Fin 16) : ℕ) + ((⟨(s : ℕ) % 128, by omega⟩ : Fin 128) : ℕ), by omega⟩ ⟨8 * ((⟨(e : ℕ) / 512, by omega⟩ : Fin 2) : ℕ) + ((⟨(e : ℕ) / 64 % 8, by omega⟩ : Fin 8) : ℕ), by omega⟩ d))
      = fun d : Fin 64 => x0 (ix4 b s ⟨(64 * ((e : ℕ) / 64) + d) / 64, by omega⟩ ⟨(64 * ((e : ℕ) / 64) + d) % 64, by omega⟩) := funext fun d =>
    congrArg x0 (funext fun a => Fin.ext (by
      match a with
      | ⟨0, _⟩ => rfl
      | ⟨1, _⟩ => exact ha
      | ⟨2, _⟩ => show 8 * ((e : ℕ) / 512) + (e : ℕ) / 64 % 8 = (64 * ((e : ℕ) / 64) + d) / 64; omega
      | ⟨3, _⟩ => show (d : ℕ) = (64 * ((e : ℕ) / 64) + d) % 64; omega))
  have hk : x3 (ix1 ⟨8 * ((⟨(e : ℕ) / 512, by omega⟩ : Fin 2) : ℕ) + ((⟨(e : ℕ) / 64 % 8, by omega⟩ : Fin 8) : ℕ), by omega⟩) = x3 (ix1 ⟨(e : ℕ) / 64, by omega⟩) :=
    congrArg (fun a => x3 (ix1 a)) (Fin.ext hd)
  have hc : ∀ c : Fin 128, refScore x0 x1 b ⟨(s : ℕ) / 128, by omega⟩ ⟨(e : ℕ) / 512, by omega⟩ ⟨(e : ℕ) / 64 % 8, by omega⟩ ⟨(s : ℕ) % 128, by omega⟩ ⟨128 + c, by omega⟩
      = if (c : ℕ) ≤ (s : ℕ) % 128 then score (fun d : Fin 64 => x0 (ix4 b s ⟨(64 * ((e : ℕ) / 64) + d) / 64, by omega⟩ ⟨(64 * ((e : ℕ) / 64) + d) % 64, by omega⟩)) (fun d => x1 (ix4 b ⟨128 * ((s : ℕ) / 128) + c, by omega⟩ ⟨(e : ℕ) / 512, by omega⟩ d)) else ⊥ := fun c => by
    unfold refScore
    rw [hq]
    by_cases h1 : (c : ℕ) ≤ (s : ℕ) % 128
    · rw [if_pos h1, if_pos (by refine ⟨⟨?_, ?_⟩, ?_⟩ <;> dsimp only <;> omega)]
      refine congrArg _ (funext fun d => ?_)
      rw [pad_at, dif_pos (by dsimp only; omega)]
      exact congrArg (fun p => x1 (ix4 b p _ d)) (Fin.ext (by dsimp only; omega))
    · rw [if_neg h1, if_neg (fun q => h1 (by have := q.1.1; dsimp only at this; omega))]
  have hp : ∀ c : Fin 128, refScore x0 x1 b ⟨(s : ℕ) / 128, by omega⟩ ⟨(e : ℕ) / 512, by omega⟩ ⟨(e : ℕ) / 64 % 8, by omega⟩ ⟨(s : ℕ) % 128, by omega⟩ ⟨c, by omega⟩
      = if (c : ℕ) ≤ (s : ℕ) % 128 ∨ (s : ℕ) / 128 = 0 then ⊥ else score (fun d : Fin 64 => x0 (ix4 b s ⟨(64 * ((e : ℕ) / 64) + d) / 64, by omega⟩ ⟨(64 * ((e : ℕ) / 64) + d) % 64, by omega⟩)) (fun d => x1 (ix4 b ⟨128 * ((s : ℕ) / 128 - 1) + c, by omega⟩ ⟨(e : ℕ) / 512, by omega⟩ d)) := fun c => by
    have hcl := c.isLt
    unfold refScore
    rw [hq]
    by_cases h1 : (c : ℕ) ≤ (s : ℕ) % 128 ∨ (s : ℕ) / 128 = 0
    · rw [if_pos h1, if_neg (fun q => by have h2 := q.1.2; have h3 := q.2; dsimp only at h2 h3; omega)]
    · rw [if_neg h1, if_pos (by refine ⟨⟨?_, ?_⟩, ?_⟩ <;> dsimp only <;> omega)]
      refine congrArg _ (funext fun d => ?_)
      rw [pad_at, dif_pos (by dsimp only; omega)]
      exact congrArg (fun p => x1 (ix4 b p _ d)) (Fin.ext (by dsimp only; omega))
  have hv : ∀ c : Fin 128, val_main_v2 (F := Ideal) x2 (ix4 b ⟨128 * ((⟨(s : ℕ) / 128, by omega⟩ : Fin 16) : ℕ) + (128 + c), by omega⟩ ⟨(e : ℕ) / 512, by omega⟩ ⟨(e : ℕ) % 64, by omega⟩)
      = x2 (ix4 b ⟨128 * ((s : ℕ) / 128) + c, by omega⟩ ⟨(e : ℕ) / 512, by omega⟩ ⟨(e : ℕ) % 64, by omega⟩) := fun c => by
    rw [vpad_at, dif_pos (by dsimp only; omega)]
    exact congrArg (fun p => x2 (ix4 b p _ _)) (Fin.ext (by dsimp only; omega))
  rw [hk]
  simp only [hc, hp, hv]
  unfold windowAt
  by_cases h0 : (s : ℕ) / 128 = 0
  · simp only [h0, or_true, if_true]
    exact sinkHead_bot _ _ _ _ _
  · refine congrArg (fun vp => sinkHead _ _ vp _ _) (funext fun c => ?_)
    rw [vpad_at, dif_pos (by dsimp only; omega)]
    exact congrArg (fun p => x2 (ix4 b p _ _)) (Fin.ext (by dsimp only; omega))

/-- The gates' columns of the input weight, at an index. -/
theorem slice_at (x4 : (⟨S1024x7936, .f32⟩ : BufTy).Contents (Elt Ideal)) (i : S1024x2048.Idx) :
    truncf (F := Ideal) .bf16 (extractStridedSlice S1024x2048 ![0, 5888] x4 slices_S1024x7936_S1024x2048_0_5888) bitsLt_bf16_f32 i
      = x4 (ix2 (i 0) ⟨5888 + (i 1 : ℕ), by have : (i 1 : ℕ) < 2048 := (i 1).isLt; omega⟩) := by
  refine congrArg x4 (funext fun a => Fin.ext ?_)
  match a with
  | ⟨0, _⟩ => show 0 + (i 0 : ℕ) = i 0; omega
  | ⟨1, _⟩ => show 5888 + (i 1 : ℕ) = 5888 + i 1; omega

end Cert.ReferenceIdeal.Attn
-- ==== Proof.Rows.lean ====
module

public import Idealize.ShloMosaic.Lib.Pointwise

/-! The layer's closing half as plain functions of ONE token's row over the extended reals: what both programs
compute, row by row. -/
set_option maxRecDepth 16384
@[expose] public noncomputable section
open Idealize.ShloMosaic
namespace Cert.Rows

/-- The mean of a row of 1024 numbers (the sum over the format's 1024.0). -/
def meanRow (h : Fin 1024 → EReal) : EReal := Ideal.div (∑ x, h x) (Ideal.ofBits FTy.f32 1149239296#32)

/-- Layer normalisation of a row: centre it, scale by the inverse root of its variance, apply gain and shift. -/
def lnRow (h g b : Fin 1024 → EReal) (c : Fin 1024) : EReal :=
  (h c - meanRow h) * Ideal.rsqrt (meanRow (fun x => (h x - meanRow h) * (h x - meanRow h)) + Ideal.ofBits FTy.f32 925353388#32) * g c + b c

/-- A row modulated by a scale and a shift. -/
def modRow (x sc sh : Fin 1024 → EReal) (d : Fin 1024) : EReal := x d * (1 + sc d) + sh d

/-- A row times a matrix. -/
def dotRow {n k : ℕ} (v : Fin n → EReal) (w : Fin n → Fin k → EReal) (e : Fin k) : EReal := ∑ x, v x * w x e

/-- The two branches' outputs under their gates: the gates are the logistic of the two halves of `u · wg`. -/
def gateRow (u : Fin 1024 → EReal) (wg : Fin 1024 → Fin 2048 → EReal) (ya yb : Fin 1024 → EReal) (c : Fin 1024) : EReal :=
  Ideal.logistic (dotRow u wg ⟨c, by omega⟩) * ya c + Ideal.logistic (dotRow u wg ⟨1024 + c, by omega⟩) * yb c

/-- The residual: the fixed multiple of the row plus the gated update. -/
def resRow (x g y : Fin 1024 → EReal) (c : Fin 1024) : EReal := Ideal.ofBits FTy.f32 1066940400#32 * x c + (1 + g c) * y c

/-- The gated activation of the feed-forward layer: silu of the first half times the second. -/
def actRow (h : Fin 5632 → EReal) (c : Fin 2816) : EReal := h ⟨c, by omega⟩ * Ideal.logistic (h ⟨c, by omega⟩) * h ⟨2816 + c, by omega⟩

/-- The row after the attention branches: gates, branches, output projection, residual, normalisation. -/
def midRow (x oa : Fin 1024 → EReal) (ob : Fin 512 → EReal) (sc sh gm : Fin 1024 → EReal)
    (wg : Fin 1024 → Fin 2048 → EReal) (wa : Fin 1024 → Fin 1024 → EReal) (wb : Fin 512 → Fin 1024 → EReal)
    (wo : Fin 1024 → Fin 1024 → EReal) (g b : Fin 1024 → EReal) : Fin 1024 → EReal :=
  lnRow (resRow x gm (dotRow (gateRow (modRow x sc sh) wg (dotRow oa wa) (dotRow ob wb)) wo)) g b

/-- The row after the feed-forward layer. -/
def ffnRow (x sc sh gf : Fin 1024 → EReal) (wgu : Fin 1024 → Fin 5632 → EReal) (wd : Fin 2816 → Fin 1024 → EReal)
    (g b : Fin 1024 → EReal) : Fin 1024 → EReal :=
  lnRow (resRow x gf (dotRow (actRow (dotRow (modRow x sc sh) wgu)) wd)) g b

/-- Column `k` of the layer's result at token `s` of sequence `b`, from the token's row `x`, its two attention outputs, the
conditioning vectors and the weights: the six modulation vectors are the six blocks of 1024 columns of `mod`, the gates'
weights the columns of `w_in` from 5888 on. -/
def tokenRow (x oa : (⟨3, ![16, 2048, 1024]⟩ : Shape).Idx → EReal) (ob : (⟨3, ![16, 2048, 512]⟩ : Shape).Idx → EReal)
    (mod : (⟨2, ![16, 6144]⟩ : Shape).Idx → EReal) (win : (⟨2, ![1024, 7936]⟩ : Shape).Idx → EReal)
    (wa : (⟨2, ![1024, 1024]⟩ : Shape).Idx → EReal) (wb : (⟨2, ![512, 1024]⟩ : Shape).Idx → EReal)
    (wo : (⟨2, ![1024, 1024]⟩ : Shape).Idx → EReal) (g1 b1 : (⟨1, ![1024]⟩ : Shape).Idx → EReal)
    (wgu : (⟨2, ![1024, 5632]⟩ : Shape).Idx → EReal) (wd : (⟨2, ![2816, 1024]⟩ : Shape).Idx → EReal)
    (g2 b2 : (⟨1, ![1024]⟩ : Shape).Idx → EReal) (b : Fin 16) (s : Fin 2048) (k : Fin 1024) : EReal :=
  ffnRow (midRow (fun d => x (ix3 b s d)) (fun d => oa (ix3 b s d)) (fun d => ob (ix3 b s d))
      (fun d => mod (ix2 b ⟨1024 + d, by omega⟩)) (fun d => mod (ix2 b ⟨d, by omega⟩)) (fun d => mod (ix2 b ⟨2048 + d, by omega⟩))
      (fun d e => win (ix2 d ⟨5888 + e, by omega⟩)) (fun d e => wa (ix2 d e)) (fun d e => wb (ix2 d e)) (fun d e => wo (ix2 d e))
      (fun d => g1 (ix1 d)) (fun d => b1 (ix1 d)))
    (fun d => mod (ix2 b ⟨4096 + d, by omega⟩)) (fun d => mod (ix2 b ⟨3072 + d, by omega⟩)) (fun d => mod (ix2 b ⟨5120 + d, by omega⟩))
    (fun d e => wgu (ix2 d e)) (fun d e => wd (ix2 d e)) (fun d => g2 (ix1 d)) (fun d => b2 (ix1 d)) k

end Cert.Rows
-- ==== Proof.PostStages.lean ====
module

public import proofs.«01_k».proof.Proof.Gen.Kernel2Ideal.Value
public import proofs.«01_k».proof.Proof.Rows
public import Idealize.ShloMosaic.Lib.Pointwise

/-! What the closing call's vector operations leave at an index, stage by stage, as the row functions. The call works on
two halves of 512 rows of its block, and on 256 columns of each product at a time. -/
set_option maxRecDepth 16384
@[expose] public noncomputable section
open Idealize.ShloMosaic Idealize.ShloMosaic.TcCoe Idealize.SL.Sem
namespace Cert.Kernel2Ideal.Post
open Cert.Kernel2Ideal Cert.Kernel2Ideal.Gen Cert.Rows

/-- A matrix of 512 rows as a function of row and column. -/
abbrev row {n k : ℕ} {φ : FTy} (X : FVec Ideal ⟨2, ![n, k]⟩ φ) (r : Fin n) : Fin k → EReal := fun c => X (ix2 r c)
/-- A one-row matrix as a function of its column. -/
abbrev row1 {k : ℕ} {φ : FTy} (X : FVec Ideal ⟨2, ![1, k]⟩ φ) : Fin k → EReal := fun c => X (ix2 0 c)
/-- A row of a block with one leading unit axis. -/
abbrev brow {n k : ℕ} {φ : FTy} (X : FVec Ideal ⟨3, ![1, n, k]⟩ φ) (r : Fin n) : Fin k → EReal := fun c => X (ix3 0 r c)
/-- A matrix as a function of two indices. -/
abbrev mat {n k : ℕ} {φ : FTy} (X : FVec Ideal ⟨2, ![n, k]⟩ φ) : Fin n → Fin k → EReal := fun a c => X (ix2 a c)

set_option maxHeartbeats 1000000

/-- `a` holds 256 columns of `W`: those from `p + o` on. -/
def IsCols {n K : ℕ} {φ : FTy} (a : FVec Ideal ⟨2, ![n, 256]⟩ φ) (W : Fin n → Fin K → EReal) (p o : ℕ) : Prop :=
  ∀ d (j : Fin 256) (h : p + (o + j) < K), a (ix2 d j) = W d ⟨p + (o + j), h⟩

/-- A choice both of whose branches are `y` is `y`. -/
theorem dite_eq_of {P : Prop} [Decidable P] {y : EReal} {A : P → EReal} {B : ¬P → EReal} (hA : ∀ h, A h = y) (hB : ∀ h, B h = y) :
    dite P A B = y := by
  by_cases h : P
  · rw [dif_pos h]; exact hA h
  · rw [dif_neg h]; exact hB h

/-- Eleven blocks of 256 columns side by side, each holding its part of `f`, hold `f`. -/
theorem cat11 (p0 p1 p2 p3 p4 p5 p6 p7 p8 p9 p10 : FVec Ideal S512x256 .bf16) (h) (f : Fin 512 → Fin 2816 → EReal)
    (h0 : IsCols p0 f 0 0)
    (h1 : IsCols p1 f 0 256)
    (h2 : IsCols p2 f 0 512)
    (h3 : IsCols p3 f 0 768)
    (h4 : IsCols p4 f 0 1024)
    (h5 : IsCols p5 f 0 1280)
    (h6 : IsCols p6 f 0 1536)
    (h7 : IsCols p7 f 0 1792)
    (h8 : IsCols p8 f 0 2048)
    (h9 : IsCols p9 f 0 2304)
    (h10 : IsCols p10 f 0 2560)
    (r : Fin 512) (c : Fin 2816) :
    concatenate S512x2816 1 [⟨S512x256, p0⟩, ⟨S512x256, p1⟩, ⟨S512x256, p2⟩, ⟨S512x256, p3⟩, ⟨S512x256, p4⟩, ⟨S512x256, p5⟩, ⟨S512x256, p6⟩, ⟨S512x256, p7⟩, ⟨S512x256, p8⟩, ⟨S512x256, p9⟩, ⟨S512x256, p10⟩] h (ix2 r c) = f r c := by
  pointwise
  refine dite_eq_of (fun hc => (h0 r ⟨(c : ℕ), hc⟩ (by dsimp only; omega)).trans (congrArg (f r) (Fin.ext (by dsimp only; omega)))) fun hc0 => ?_
  refine dite_eq_of (fun hc => (h1 r ⟨(c : ℕ) - 256, hc⟩ (by dsimp only; omega)).trans (congrArg (f r) (Fin.ext (by dsimp only; omega)))) fun hc1 => ?_
  refine dite_eq_of (fun hc => (h2 r ⟨(c : ℕ) - 256 - 256, hc⟩ (by dsimp only; omega)).trans (congrArg (f r) (Fin.ext (by dsimp only; omega)))) fun hc2 => ?_
  refine dite_eq_of (fun hc => (h3 r ⟨(c : ℕ) - 256 - 256 - 256, hc⟩ (by dsimp only; omega)).trans (congrArg (f r) (Fin.ext (by dsimp only; omega)))) fun hc3 => ?_
  refine dite_eq_of (fun hc => (h4 r ⟨(c : ℕ) - 256 - 256 - 256 - 256, hc⟩ (by dsimp only; omega)).trans (congrArg (f r) (Fin.ext (by dsimp only; omega)))) fun hc4 => ?_
  refine dite_eq_of (fun hc => (h5 r ⟨(c : ℕ) - 256 - 256 - 256 - 256 - 256, hc⟩ (by dsimp only; omega)).trans (congrArg (f r) (Fin.ext (by dsimp only; omega)))) fun hc5 => ?_
  refine dite_eq_of (fun hc => (h6 r ⟨(c : ℕ) - 256 - 256 - 256 - 256 - 256 - 256, hc⟩ (by dsimp only; omega)).trans (congrArg (f r) (Fin.ext (by dsimp only; omega)))) fun hc6 => ?_
  refine dite_eq_of (fun hc => (h7 r ⟨(c : ℕ) - 256 - 256 - 256 - 256 - 256 - 256 - 256, hc⟩ (by dsimp only; omega)).trans (congrArg (f r) (Fin.ext (by dsimp only; omega)))) fun hc7 => ?_
  refine dite_eq_of (fun hc => (h8 r ⟨(c : ℕ) - 256 - 256 - 256 - 256 - 256 - 256 - 256 - 256, hc⟩ (by dsimp only; omega)).trans (congrArg (f r) (Fin.ext (by dsimp only; omega)))) fun hc8 => ?_
  refine dite_eq_of (fun hc => (h9 r ⟨(c : ℕ) - 256 - 256 - 256 - 256 - 256 - 256 - 256 - 256 - 256, hc⟩ (by dsimp only; omega)).trans (congrArg (f r) (Fin.ext (by dsimp only; omega)))) fun hc9 => ?_
  exact (h10 r ⟨(c : ℕ) - 256 - 256 - 256 - 256 - 256 - 256 - 256 - 256 - 256 - 256, by omega⟩ (by dsimp only; omega)).trans (congrArg (f r) (Fin.ext (by dsimp only; omega)))

/-- The down projection of an activation, read at an index. -/
theorem downAt (a : FVec Ideal S512x2816 .bf16) (wd : FVec Ideal S2816x1024 .bf16) (r : Fin 512) (e : Fin 1024) :
    matmul dot_S512x2816_S2816x1024_S512x1024_1_0_0_1_n_n none a (shapeCast S2816x1024 wd shapeCasts_S2816x1024_S2816x1024)
      (constant (F := Ideal) S512x1024 .f32 0x00000000#32) (ix2 r e) = ∑ c : Fin 2816, a (ix2 r c) * wd (ix2 c e) := by
  pointwise

/-- The first projection's output for half 0 of the block: the gated sum of the two branches times the output matrix. -/
theorem mix0 (x : FVec Ideal S1x512x1024 .f32) (sc sh : FVec Ideal S1x1x1024 .f32) (oa : FVec Ideal S1x512x1024 .bf16) (ob : FVec Ideal S1x512x512 .bf16)
    (a0 a1 a2 a3 b0 b1 b2 b3 wa0 wa1 wa2 wa3 : FVec Ideal S1024x256 .bf16) (wb0 wb1 wb2 wb3 : FVec Ideal S512x256 .bf16) (wo : FVec Ideal S1024x1024 .bf16)
    (WG : Fin 1024 → Fin 2048 → EReal) (WA : Fin 1024 → Fin 1024 → EReal) (WB : Fin 512 → Fin 1024 → EReal)
    (ha0 : ∀ d (j : Fin 256), a0 (ix2 d j) = WG d ⟨0 + j, by omega⟩) (hb0 : ∀ d (j : Fin 256), b0 (ix2 d j) = WG d ⟨1024 + (0 + j), by omega⟩)
    (hwa0 : ∀ d (j : Fin 256), wa0 (ix2 d j) = WA d ⟨0 + j, by omega⟩) (hwb0 : ∀ d (j : Fin 256), wb0 (ix2 d j) = WB d ⟨0 + j, by omega⟩)
    (ha1 : ∀ d (j : Fin 256), a1 (ix2 d j) = WG d ⟨256 + j, by omega⟩) (hb1 : ∀ d (j : Fin 256), b1 (ix2 d j) = WG d ⟨1024 + (256 + j), by omega⟩)
    (hwa1 : ∀ d (j : Fin 256), wa1 (ix2 d j) = WA d ⟨256 + j, by omega⟩) (hwb1 : ∀ d (j : Fin 256), wb1 (ix2 d j) = WB d ⟨256 + j, by omega⟩)
    (ha2 : ∀ d (j : Fin 256), a2 (ix2 d j) = WG d ⟨512 + j, by omega⟩) (hb2 : ∀ d (j : Fin 256), b2 (ix2 d j) = WG d ⟨1024 + (512 + j), by omega⟩)
    (hwa2 : ∀ d (j : Fin 256), wa2 (ix2 d j) = WA d ⟨512 + j, by omega⟩) (hwb2 : ∀ d (j : Fin 256), wb2 (ix2 d j) = WB d ⟨512 + j, by omega⟩)
    (ha3 : ∀ d (j : Fin 256), a3 (ix2 d j) = WG d ⟨768 + j, by omega⟩) (hb3 : ∀ d (j : Fin 256), b3 (ix2 d j) = WG d ⟨1024 + (768 + j), by omega⟩)
    (hwa3 : ∀ d (j : Fin 256), wa3 (ix2 d j) = WA d ⟨768 + j, by omega⟩) (hwb3 : ∀ d (j : Fin 256), wb3 (ix2 d j) = WB d ⟨768 + j, by omega⟩) (r : Fin 512) (e : Fin 1024) :
    k0_pay15 (F := Ideal) (k0_pay2 (F := Ideal) x sc sh) (k0_pay3 (F := Ideal) oa) (k0_pay4 (F := Ideal) ob) (k0_pay9 (F := Ideal) (k0_pay5 (F := Ideal) x sc sh a0) (k0_pay6 (F := Ideal) oa wa0) (k0_pay7 (F := Ideal) x sc sh b0) (k0_pay8 (F := Ideal) ob wb0)) (k0_pay10 (F := Ideal) (k0_pay2 (F := Ideal) x sc sh) (k0_pay3 (F := Ideal) oa) (k0_pay4 (F := Ideal) ob) a1 wa1 b1 wb1) (k0_pay11 (F := Ideal) (k0_pay2 (F := Ideal) x sc sh) a2) (k0_pay12 (F := Ideal) (k0_pay3 (F := Ideal) oa) wa2) (k0_pay13 (F := Ideal) (k0_pay2 (F := Ideal) x sc sh) b2) (k0_pay14 (F := Ideal) (k0_pay4 (F := Ideal) ob) wb2) a3 wa3 b3 wb3 wo (ix2 r e)
      = dotRow (gateRow (modRow (brow x r) (brow sc 0) (brow sh 0)) WG (dotRow (brow oa r) WA) (dotRow (brow ob r) WB)) (mat wo) e := by
  pointwise [k0_pay2, k0_pay3, k0_pay4, k0_pay5, k0_pay6, k0_pay7, k0_pay8, k0_pay9, k0_pay10, k0_pay11, k0_pay12, k0_pay13, k0_pay14, k0_pay15, ha0, hb0, hwa0, hwb0, ha1, hb1, hwa1, hwb1, ha2, hb2, hwa2, hwb2, ha3, hb3, hwa3, hwb3]
  simp only [gateRow, dotRow, modRow]
  refine Finset.sum_congr rfl fun c _ => congrArg (· * wo (ix2 c e)) ?_
  split_ifs <;> simp (disch := omega) only [Nat.sub_sub, Nat.reduceAdd, Nat.add_sub_cancel']

/-- The first projection's output for half 1 of the block: the gated sum of the two branches times the output matrix. -/
theorem mix1 (x : FVec Ideal S1x512x1024 .f32) (sc sh : FVec Ideal S1x1x1024 .f32) (oa : FVec Ideal S1x512x1024 .bf16) (ob : FVec Ideal S1x512x512 .bf16)
    (a0 a1 a2 a3 b0 b1 b2 b3 wa0 wa1 wa2 wa3 : FVec Ideal S1024x256 .bf16) (wb0 wb1 wb2 wb3 : FVec Ideal S512x256 .bf16) (wo : FVec Ideal S1024x1024 .bf16)
    (WG : Fin 1024 → Fin 2048 → EReal) (WA : Fin 1024 → Fin 1024 → EReal) (WB : Fin 512 → Fin 1024 → EReal)
    (ha0 : ∀ d (j : Fin 256), a0 (ix2 d j) = WG d ⟨0 + j, by omega⟩) (hb0 : ∀ d (j : Fin 256), b0 (ix2 d j) = WG d ⟨1024 + (0 + j), by omega⟩)
    (hwa0 : ∀ d (j : Fin 256), wa0 (ix2 d j) = WA d ⟨0 + j, by omega⟩) (hwb0 : ∀ d (j : Fin 256), wb0 (ix2 d j) = WB d ⟨0 + j, by omega⟩)
    (ha1 : ∀ d (j : Fin 256), a1 (ix2 d j) = WG d ⟨256 + j, by omega⟩) (hb1 : ∀ d (j : Fin 256), b1 (ix2 d j) = WG d ⟨1024 + (256 + j), by omega⟩)
    (hwa1 : ∀ d (j : Fin 256), wa1 (ix2 d j) = WA d ⟨256 + j, by omega⟩) (hwb1 : ∀ d (j : Fin 256), wb1 (ix2 d j) = WB d ⟨256 + j, by omega⟩)
    (ha2 : ∀ d (j : Fin 256), a2 (ix2 d j) = WG d ⟨512 + j, by omega⟩) (hb2 : ∀ d (j : Fin 256), b2 (ix2 d j) = WG d ⟨1024 + (512 + j), by omega⟩)
    (hwa2 : ∀ d (j : Fin 256), wa2 (ix2 d j) = WA d ⟨512 + j, by omega⟩) (hwb2 : ∀ d (j : Fin 256), wb2 (ix2 d j) = WB d ⟨512 + j, by omega⟩)
    (ha3 : ∀ d (j : Fin 256), a3 (ix2 d j) = WG d ⟨768 + j, by omega⟩) (hb3 : ∀ d (j : Fin 256), b3 (ix2 d j) = WG d ⟨1024 + (768 + j), by omega⟩)
    (hwa3 : ∀ d (j : Fin 256), wa3 (ix2 d j) = WA d ⟨768 + j, by omega⟩) (hwb3 : ∀ d (j : Fin 256), wb3 (ix2 d j) = WB d ⟨768 + j, by omega⟩) (r : Fin 512) (e : Fin 1024) :
    k0_pay27 (F := Ideal) (k0_pay17 (F := Ideal) (k0_pay16 (F := Ideal) x sc) sh) (k0_pay19 (F := Ideal) ob) (k0_pay20 (F := Ideal) (k0_pay16 (F := Ideal) x sc) sh oa ob a0 wa0 b0 wb0) (k0_pay23 (F := Ideal) (k0_pay17 (F := Ideal) (k0_pay16 (F := Ideal) x sc) sh) (k0_pay19 (F := Ideal) ob) (k0_pay21 (F := Ideal) (k0_pay16 (F := Ideal) x sc) sh a1) (k0_pay22 (F := Ideal) oa wa1) b1 wb1) (k0_pay24 (F := Ideal) (k0_pay17 (F := Ideal) (k0_pay16 (F := Ideal) x sc) sh) (k0_pay18 (F := Ideal) oa) (k0_pay19 (F := Ideal) ob) a2 wa2 b2 wb2) (k0_pay25 (F := Ideal) (k0_pay17 (F := Ideal) (k0_pay16 (F := Ideal) x sc) sh) a3) (k0_pay26 (F := Ideal) (k0_pay18 (F := Ideal) oa) wa3) b3 wb3 wo (ix2 r e)
      = dotRow (gateRow (modRow (brow x r) (brow sc 0) (brow sh 0)) WG (dotRow (brow oa r) WA) (dotRow (brow ob r) WB)) (mat wo) e := by
  pointwise [k0_pay16, k0_pay17, k0_pay18, k0_pay19, k0_pay20, k0_pay21, k0_pay22, k0_pay23, k0_pay24, k0_pay25, k0_pay26, k0_pay27, ha0, hb0, hwa0, hwb0, ha1, hb1, hwa1, hwb1, ha2, hb2, hwa2, hwb2, ha3, hb3, hwa3, hwb3]
  simp only [gateRow, dotRow, modRow]
  refine Finset.sum_congr rfl fun c _ => congrArg (· * wo (ix2 c e)) ?_
  split_ifs <;> simp (disch := omega) only [Nat.sub_sub, Nat.reduceAdd, Nat.add_sub_cancel']

set_option maxHeartbeats 1000000 in
/-- The feed-forward layer's product for the first half of the block. -/
theorem act0 (G B : FVec Ideal S1x1024 .f32) (H : FVec Ideal S512x1024 .f32) (S : FVec Ideal S512x1 .f32) (wd : FVec Ideal S2816x1024 .bf16) (sc sh : FVec Ideal S1x1x1024 .f32) (a0 a1 a2 a3 a4 a5 a6 a7 a8 a9 a10 b0 b1 b2 b3 b4 b5 b6 b7 b8 b9 b10 : FVec Ideal S1024x256 .bf16)
    (WGU : Fin 1024 → Fin 5632 → EReal)
    (ha0 : IsCols a0 WGU 0 0) (hb0 : IsCols b0 WGU 2816 0)
    (ha1 : IsCols a1 WGU 0 256) (hb1 : IsCols b1 WGU 2816 256)
    (ha2 : IsCols a2 WGU 0 512) (hb2 : IsCols b2 WGU 2816 512)
    (ha3 : IsCols a3 WGU 0 768) (hb3 : IsCols b3 WGU 2816 768)
    (ha4 : IsCols a4 WGU 0 1024) (hb4 : IsCols b4 WGU 2816 1024)
    (ha5 : IsCols a5 WGU 0 1280) (hb5 : IsCols b5 WGU 2816 1280)
    (ha6 : IsCols a6 WGU 0 1536) (hb6 : IsCols b6 WGU 2816 1536)
    (ha7 : IsCols a7 WGU 0 1792) (hb7 : IsCols b7 WGU 2816 1792)
    (ha8 : IsCols a8 WGU 0 2048) (hb8 : IsCols b8 WGU 2816 2048)
    (ha9 : IsCols a9 WGU 0 2304) (hb9 : IsCols b9 WGU 2816 2304)
    (ha10 : IsCols a10 WGU 0 2560) (hb10 : IsCols b10 WGU 2816 2560)
    (r : Fin 512) (e : Fin 1024) :
    k0_pay48 (F := Ideal) (k0_pay33 (F := Ideal) G B H S sc sh) (k0_pay34 (F := Ideal) G B H S sc sh a0 b0) (k0_pay38 (F := Ideal) (k0_pay35 (F := Ideal) G B H S sc sh a1) (k0_pay36 (F := Ideal) G B H S sc sh b1) (k0_pay37 (F := Ideal) G B H S sc sh a1)) (k0_pay39 (F := Ideal) (k0_pay33 (F := Ideal) G B H S sc sh) a2 b2) (k0_pay40 (F := Ideal) (k0_pay33 (F := Ideal) G B H S sc sh) a3 b3) (k0_pay41 (F := Ideal) (k0_pay33 (F := Ideal) G B H S sc sh) a4 b4) (k0_pay43 (F := Ideal) (k0_pay33 (F := Ideal) G B H S sc sh) (k0_pay42 (F := Ideal) (k0_pay33 (F := Ideal) G B H S sc sh) a5) b5) (k0_pay44 (F := Ideal) (k0_pay33 (F := Ideal) G B H S sc sh) a6 b6) (k0_pay45 (F := Ideal) (k0_pay33 (F := Ideal) G B H S sc sh) a7 b7) (k0_pay46 (F := Ideal) (k0_pay33 (F := Ideal) G B H S sc sh) a8 b8) (k0_pay47 (F := Ideal) a9) (constant S512x256 FTy.f32 0#32) b9 a10 b10 wd (ix2 r e)
      = dotRow (actRow (dotRow (modRow (row (k0_pay32 (F := Ideal) G B H S) r) (brow sc 0) (brow sh 0)) WGU)) (mat wd) e := by
  replace ha0 := fun d (j : Fin 256) => ha0 d j (by omega)
  replace hb0 := fun d (j : Fin 256) => hb0 d j (by omega)
  replace ha1 := fun d (j : Fin 256) => ha1 d j (by omega)
  replace hb1 := fun d (j : Fin 256) => hb1 d j (by omega)
  replace ha2 := fun d (j : Fin 256) => ha2 d j (by omega)
  replace hb2 := fun d (j : Fin 256) => hb2 d j (by omega)
  replace ha3 := fun d (j : Fin 256) => ha3 d j (by omega)
  replace hb3 := fun d (j : Fin 256) => hb3 d j (by omega)
  replace ha4 := fun d (j : Fin 256) => ha4 d j (by omega)
  replace hb4 := fun d (j : Fin 256) => hb4 d j (by omega)
  replace ha5 := fun d (j : Fin 256) => ha5 d j (by omega)
  replace hb5 := fun d (j : Fin 256) => hb5 d j (by omega)
  replace ha6 := fun d (j : Fin 256) => ha6 d j (by omega)
  replace hb6 := fun d (j : Fin 256) => hb6 d j (by omega)
  replace ha7 := fun d (j : Fin 256) => ha7 d j (by omega)
  replace hb7 := fun d (j : Fin 256) => hb7 d j (by omega)
  replace ha8 := fun d (j : Fin 256) => ha8 d j (by omega)
  replace hb8 := fun d (j : Fin 256) => hb8 d j (by omega)
  replace ha9 := fun d (j : Fin 256) => ha9 d j (by omega)
  replace hb9 := fun d (j : Fin 256) => hb9 d j (by omega)
  replace ha10 := fun d (j : Fin 256) => ha10 d j (by omega)
  replace hb10 := fun d (j : Fin 256) => hb10 d j (by omega)
  unfold k0_pay48
  refine (downAt _ wd r e).trans (Finset.sum_congr rfl fun c _ => congrArg (· * wd (ix2 c e)) ?_)
  refine cat11 _ _ _ _ _ _ _ _ _ _ _ _ (fun r c => actRow (dotRow (modRow (row (k0_pay32 (F := Ideal) G B H S) r) (brow sc 0) (brow sh 0)) WGU) c) ?_ ?_ ?_ ?_ ?_ ?_ ?_ ?_ ?_ ?_ ?_ r c
  all_goals
    intro r j hj
    pointwise [k0_pay33, k0_pay34, k0_pay35, k0_pay36, k0_pay37, k0_pay38, k0_pay39, k0_pay40, k0_pay41, k0_pay42, k0_pay43, k0_pay44, k0_pay45, k0_pay46, k0_pay47, ha0, hb0, ha1, hb1, ha2, hb2, ha3, hb3, ha4, hb4, ha5, hb5, ha6, hb6, ha7, hb7, ha8, hb8, ha9, hb9, ha10, hb10]
    simp only [actRow, dotRow, modRow, zero_add]

set_option maxHeartbeats 1000000 in
/-- The feed-forward layer's activation for the second half of the block. -/
theorem act1 (G b : FVec Ideal S1x1024 .f32) (H : FVec Ideal S512x1024 .f32) (sc sh : FVec Ideal S1x1x1024 .f32) (a0 a1 a2 a3 a4 a5 a6 a7 a8 a9 a10 b0 b1 b2 b3 b4 b5 b6 b7 b8 b9 b10 : FVec Ideal S1024x256 .bf16)
    (WGU : Fin 1024 → Fin 5632 → EReal)
    (ha0 : IsCols a0 WGU 0 0) (hb0 : IsCols b0 WGU 2816 0)
    (ha1 : IsCols a1 WGU 0 256) (hb1 : IsCols b1 WGU 2816 256)
    (ha2 : IsCols a2 WGU 0 512) (hb2 : IsCols b2 WGU 2816 512)
    (ha3 : IsCols a3 WGU 0 768) (hb3 : IsCols b3 WGU 2816 768)
    (ha4 : IsCols a4 WGU 0 1024) (hb4 : IsCols b4 WGU 2816 1024)
    (ha5 : IsCols a5 WGU 0 1280) (hb5 : IsCols b5 WGU 2816 1280)
    (ha6 : IsCols a6 WGU 0 1536) (hb6 : IsCols b6 WGU 2816 1536)
    (ha7 : IsCols a7 WGU 0 1792) (hb7 : IsCols b7 WGU 2816 1792)
    (ha8 : IsCols a8 WGU 0 2048) (hb8 : IsCols b8 WGU 2816 2048)
    (ha9 : IsCols a9 WGU 0 2304) (hb9 : IsCols b9 WGU 2816 2304)
    (ha10 : IsCols a10 WGU 0 2560) (hb10 : IsCols b10 WGU 2816 2560)
    (r : Fin 512) (c : Fin 2816) :
    k0_pay64 (F := Ideal) (k0_pay52 (F := Ideal) H G b sc sh) (k0_pay53 (F := Ideal) H G b sc sh a0 b0) (k0_pay54 (F := Ideal) (k0_pay52 (F := Ideal) H G b sc sh) a1 b1) (k0_pay55 (F := Ideal) (k0_pay52 (F := Ideal) H G b sc sh) a2 b2) (k0_pay56 (F := Ideal) (k0_pay52 (F := Ideal) H G b sc sh) a3 b3) (k0_pay59 (F := Ideal) (k0_pay57 (F := Ideal) (k0_pay52 (F := Ideal) H G b sc sh) a4) (k0_pay58 (F := Ideal) (k0_pay52 (F := Ideal) H G b sc sh) b4)) (k0_pay60 (F := Ideal) (k0_pay52 (F := Ideal) H G b sc sh) a5 b5) (k0_pay61 (F := Ideal) (k0_pay52 (F := Ideal) H G b sc sh) a6 b6) (k0_pay62 (F := Ideal) (k0_pay52 (F := Ideal) H G b sc sh) a7 b7) (k0_pay63 (F := Ideal) (k0_pay52 (F := Ideal) H G b sc sh) a8) b8 a9 b9 a10 b10 (ix2 r c)
      = actRow (dotRow (modRow (row (k0_pay51 (F := Ideal) H G b) r) (brow sc 0) (brow sh 0)) WGU) c := by
  replace ha0 := fun d (j : Fin 256) => ha0 d j (by omega)
  replace hb0 := fun d (j : Fin 256) => hb0 d j (by omega)
  replace ha1 := fun d (j : Fin 256) => ha1 d j (by omega)
  replace hb1 := fun d (j : Fin 256) => hb1 d j (by omega)
  replace ha2 := fun d (j : Fin 256) => ha2 d j (by omega)
  replace hb2 := fun d (j : Fin 256) => hb2 d j (by omega)
  replace ha3 := fun d (j : Fin 256) => ha3 d j (by omega)
  replace hb3 := fun d (j : Fin 256) => hb3 d j (by omega)
  replace ha4 := fun d (j : Fin 256) => ha4 d j (by omega)
  replace hb4 := fun d (j : Fin 256) => hb4 d j (by omega)
  replace ha5 := fun d (j : Fin 256) => ha5 d j (by omega)
  replace hb5 := fun d (j : Fin 256) => hb5 d j (by omega)
  replace ha6 := fun d (j : Fin 256) => ha6 d j (by omega)
  replace hb6 := fun d (j : Fin 256) => hb6 d j (by omega)
  replace ha7 := fun d (j : Fin 256) => ha7 d j (by omega)
  replace hb7 := fun d (j : Fin 256) => hb7 d j (by omega)
  replace ha8 := fun d (j : Fin 256) => ha8 d j (by omega)
  replace hb8 := fun d (j : Fin 256) => hb8 d j (by omega)
  replace ha9 := fun d (j : Fin 256) => ha9 d j (by omega)
  replace hb9 := fun d (j : Fin 256) => hb9 d j (by omega)
  replace ha10 := fun d (j : Fin 256) => ha10 d j (by omega)
  replace hb10 := fun d (j : Fin 256) => hb10 d j (by omega)
  unfold k0_pay64
  refine cat11 _ _ _ _ _ _ _ _ _ _ _ _ (fun r c => actRow (dotRow (modRow (row (k0_pay51 (F := Ideal) H G b) r) (brow sc 0) (brow sh 0)) WGU) c) ?_ ?_ ?_ ?_ ?_ ?_ ?_ ?_ ?_ ?_ ?_ r c
  all_goals
    intro r j hj
    pointwise [k0_pay52, k0_pay53, k0_pay54, k0_pay55, k0_pay56, k0_pay57, k0_pay58, k0_pay59, k0_pay60, k0_pay61, k0_pay62, k0_pay63, ha0, hb0, ha1, hb1, ha2, hb2, ha3, hb3, ha4, hb4, ha5, hb5, ha6, hb6, ha7, hb7, ha8, hb8, ha9, hb9, ha10, hb10]
    simp only [actRow, dotRow, modRow, zero_add]

/-- The first normalisation's rows, first half. -/
theorem mid0 (y : FVec Ideal S512x1024 .f32) (x : FVec Ideal S1x512x1024 .f32) (gm : FVec Ideal S1x1x1024 .f32) (g b : FVec Ideal S1x1024 .f32) (r : Fin 512) (c : Fin 1024) :
    k0_pay32 (F := Ideal) (k0_pay28 (F := Ideal) g) (k0_pay29 (F := Ideal) b) (k0_pay30 (F := Ideal) y x gm) (k0_pay31 (F := Ideal) y x gm) (ix2 r c) = lnRow (resRow (brow x r) (brow gm 0) (row y r)) (row1 g) (row1 b) c := by
  pointwise [k0_pay28, k0_pay29, k0_pay30, k0_pay31, k0_pay32]
  simp only [lnRow, resRow, meanRow]

/-- The first normalisation's rows, second half. -/
theorem mid1 (y : FVec Ideal S512x1024 .f32) (x : FVec Ideal S1x512x1024 .f32) (gm : FVec Ideal S1x1x1024 .f32) (g b : FVec Ideal S1x1024 .f32) (r : Fin 512) (c : Fin 1024) :
    k0_pay51 (F := Ideal) (k0_pay49 (F := Ideal) y x gm) (k0_pay50 (F := Ideal) g) b (ix2 r c) = lnRow (resRow (brow x r) (brow gm 0) (row y r)) (row1 g) (row1 b) c := by
  pointwise [k0_pay49, k0_pay50, k0_pay51]
  simp only [lnRow, resRow, meanRow]

/-- What is stored for the first half: the second normalisation. -/
theorem out0 (x acc : FVec Ideal S512x1024 .f32) (gf : FVec Ideal S1x1x1024 .f32) (g b : FVec Ideal S1x1024 .f32) (r : Fin 512) (c : Fin 1024) :
    k0_pay67 (F := Ideal) (k0_pay65 (F := Ideal) x acc gf) (k0_pay66 (F := Ideal) g) b (ix3 0 r c) = lnRow (resRow (row x r) (brow gf 0) (row acc r)) (row1 g) (row1 b) c := by
  pointwise [k0_pay65, k0_pay66, k0_pay67]
  simp only [lnRow, resRow, meanRow]

/-- What is stored for the second half's first 256 rows. -/
theorem out1 (x : FVec Ideal S512x1024 .f32) (a : FVec Ideal S512x2816 .bf16) (wd : FVec Ideal S2816x1024 .bf16) (gf : FVec Ideal S1x1x1024 .f32) (g b : FVec Ideal S1x1024 .f32) (r : Fin 256) (c : Fin 1024) :
    k0_pay69 (F := Ideal) (k0_pay68 (F := Ideal) x a wd gf) g b (ix3 0 r c) = lnRow (resRow (row x ⟨r, by omega⟩) (brow gf 0) (dotRow (row a ⟨r, by omega⟩) (mat wd))) (row1 g) (row1 b) c := by
  pointwise [k0_pay68, k0_pay69]
  simp only [lnRow, resRow, meanRow, dotRow]

/-- What is stored for the second half's last 256 rows. -/
theorem out2 (x : FVec Ideal S512x1024 .f32) (a : FVec Ideal S512x2816 .bf16) (wd : FVec Ideal S2816x1024 .bf16) (gf : FVec Ideal S1x1x1024 .f32) (g b : FVec Ideal S1x1024 .f32) (r : Fin 256) (c : Fin 1024) :
    k0_pay1 (F := Ideal) (k0_pay70 (F := Ideal) x a wd gf) g b (ix3 0 r c) = lnRow (resRow (row x ⟨256 + r, by omega⟩) (brow gf 0) (dotRow (row a ⟨256 + r, by omega⟩) (mat wd))) (row1 g) (row1 b) c := by
  pointwise [k0_pay70, k0_pay1]
  simp only [lnRow, resRow, meanRow, dotRow]

end Cert.Kernel2Ideal.Post
-- ==== Proof.Cover.lean ====
module

public import Idealize.ShloMosaic.Lib.Pipeline.ValueKit
public import Idealize.ShloMosaic.Lib.Pointwise

/-! When an index lies in a unit-stride rectangle, and a cover of the 1024 rows of a block by three stores. -/
set_option maxRecDepth 16384
@[expose] public section

open Idealize.ShloMosaic Idealize.ShloMosaic.TcCoe Idealize.SL.Sem
namespace Cert.Cover

/-- An index lies in a unit-stride rectangle when each coordinate lies between the rectangle's bounds. -/
theorem mem_unit {s : Shape} {off size : Fin s.rank → ℕ} (inb : ∀ a, off a + size a ≤ s.size a) (y : s.Idx)
    (h : ∀ a, off a ≤ (y a : ℕ) ∧ (y a : ℕ) < off a + size a) : y ∈ (Rect.unit off size inb).set :=
  (LoadRect.mem_set _).2 fun a => ⟨(y a : ℕ) - off a, by have := h a; show _ < size a; omega, by
    have := h a; show (y a : ℕ) = off a + 1 * ((y a : ℕ) - off a); omega⟩

/-- Rows 768 on, rows 512 to 767 and rows 0 to 511 are all 1024 rows. -/
theorem cover3 {Val : EltTy → Type} {e : EltTy} (i1 i2 i3) (p1 : _) (p2 : _) (p3 : _) (y : (⟨3, ![1, 1024, 1024]⟩ : Shape).Idx) :
    ∃ p ∈ ([⟨Rect.unit ![0, 768, 0] ![1, 256, 1024] i1, p1⟩, ⟨Rect.unit ![0, 512, 0] ![1, 256, 1024] i2, p2⟩,
      ⟨Rect.unit ![0, 0, 0] ![1, 512, 1024] i3, p3⟩] : List (View.Piece Val ⟨3, ![1, 1024, 1024]⟩ e)), y ∈ p.1.set := by
  have h0 : (y 0 : ℕ) < 1 := (y 0).isLt
  have h1 : (y 1 : ℕ) < 1024 := (y 1).isLt
  have h2 : (y 2 : ℕ) < 1024 := (y 2).isLt
  by_cases k1 : 768 ≤ (y 1 : ℕ)
  · refine ⟨_, List.mem_cons_self, mem_unit (by assumption) _ ?_⟩
    rw [Fin.forall_fin_succ, Fin.forall_fin_succ, Fin.forall_fin_succ]
    exact ⟨⟨Nat.zero_le _, h0⟩, ⟨k1, h1⟩, ⟨Nat.zero_le _, h2⟩, fun a => a.elim0⟩
  by_cases k2 : 512 ≤ (y 1 : ℕ)
  · refine ⟨_, List.mem_cons_of_mem _ List.mem_cons_self, mem_unit (by assumption) _ ?_⟩
    rw [Fin.forall_fin_succ, Fin.forall_fin_succ, Fin.forall_fin_succ]
    exact ⟨⟨Nat.zero_le _, h0⟩, ⟨k2, Nat.lt_of_not_le k1⟩, ⟨Nat.zero_le _, h2⟩, fun a => a.elim0⟩
  · refine ⟨_, List.mem_cons_of_mem _ (List.mem_cons_of_mem _ List.mem_cons_self), mem_unit (by assumption) _ ?_⟩
    rw [Fin.forall_fin_succ, Fin.forall_fin_succ, Fin.forall_fin_succ]
    exact ⟨⟨Nat.zero_le _, h0⟩, ⟨Nat.zero_le _, Nat.lt_of_not_le k2⟩, ⟨Nat.zero_le _, h2⟩, fun a => a.elim0⟩

/-- A load of `n` rows of a block, from row `o` on, read at an index. -/
theorem ld3 {Val : EltTy → Type} {e : EltTy} {N K n : ℕ} (X : (⟨3, ![1, N, K]⟩ : Shape).Idx → Val e) (o : ℕ) (inb) (r : Fin n) (d : Fin K)
    (h : o + (r : ℕ) < N) : View.ld X (Rect.unit ![0, o, 0] ![1, n, K] inb) (ix3 0 r d) = X (ix3 0 ⟨o + r, h⟩ d) := by
  refine congrArg X (funext fun a => Fin.ext ?_)
  match a with
  | 0 => rfl
  | 1 => show o + 1 * (r : ℕ) = o + r; omega
  | 2 => show 0 + 1 * (d : ℕ) = d; omega

/-- A load of `n` columns of a matrix, from column `o` on, read at an index. -/
theorem ld2 {Val : EltTy → Type} {e : EltTy} {M K n : ℕ} (X : (⟨2, ![M, K]⟩ : Shape).Idx → Val e) (o : ℕ) (inb) (d : Fin M) (j : Fin n)
    (h : o + (j : ℕ) < K) : View.ld X (Rect.unit ![0, o] ![M, n] inb) (ix2 d j) = X (ix2 d ⟨o + j, h⟩) := by
  refine congrArg X (funext fun a => Fin.ext ?_)
  match a with
  | 0 => show 0 + 1 * (d : ℕ) = d; omega
  | 1 => show o + 1 * (j : ℕ) = o + j; omega

end Cert.Cover
-- ==== Proof.PostPoint.lean ====
module

public import proofs.«01_k».proof.Proof.PostStages
public import proofs.«01_k».proof.Proof.Cover
public import Idealize.ShloMosaic.Lib.Pipeline.ValueKit

/-! What the closing call leaves in its output block, at an index of the block: the row functions of the block's inputs. -/
set_option maxRecDepth 16384
@[expose] public noncomputable section
open Idealize.ShloMosaic Idealize.ShloMosaic.TcCoe Idealize.SL.Sem
open Idealize.ShloMosaic.Pipeline (Dat)
namespace Cert.Kernel2Ideal.Post
open Cert.Kernel2Ideal Cert.Kernel2Ideal.Gen Cert.Rows
variable (m : (ℓ : Loc nD τ sig) → Buf (Elt Ideal) ℓ)

/-- Row `r`, column `k` of the output block, from the contents of the nineteen input blocks. -/
def blockRow (I0 : FVec Ideal S1x1024x1024 .f32) (I1 : FVec Ideal S1x1024x1024 .bf16) (I2 : FVec Ideal S1x1024x512 .bf16)
    (I3 I4 I5 I6 I7 I8 : FVec Ideal S1x1x1024 .f32) (I9 I10 I11 I12 : FVec Ideal S1x1024 .f32) (I13 : FVec Ideal S1024x2048 .bf16)
    (I14 : FVec Ideal S1024x1024 .bf16) (I15 : FVec Ideal S512x1024 .bf16) (I16 : FVec Ideal S1024x1024 .bf16)
    (I17 : FVec Ideal S1024x5632 .bf16) (I18 : FVec Ideal S2816x1024 .bf16) (r k : Fin 1024) : EReal :=
  ffnRow (midRow (brow I0 r) (brow I1 r) (brow I2 r) (brow I3 0) (brow I4 0) (brow I5 0) (mat I13) (mat I14) (mat I15) (mat I16) (row1 I9) (row1 I10))
    (brow I7 0) (brow I6 0) (brow I8 0) (mat I17) (mat I18) (row1 I11) (row1 I12) k

/-- Equal rows and equal updates give equal normalised residuals. -/
theorem lnres_congr {x x' y y' : Fin 1024 → EReal} (g a b : Fin 1024 → EReal) (k : Fin 1024) (hx : x = x') (hy : y = y') :
    lnRow (resRow x g y) a b k = lnRow (resRow x' g y') a b k := by rw [hx, hy]

/-- Equal rows have equal feed-forward products. -/
theorem ffn_congr {x x' : Fin 1024 → EReal} (sc sh : Fin 1024 → EReal) (w : Fin 1024 → Fin 5632 → EReal) (wd : Fin 2816 → Fin 1024 → EReal)
    (hx : x = x') : dotRow (actRow (dotRow (modRow x sc sh) w)) wd = dotRow (actRow (dotRow (modRow x' sc sh) w)) wd := by rw [hx]

/-- Equal rows have equal activations. -/
theorem act_congr {x x' : Fin 1024 → EReal} (sc sh : Fin 1024 → EReal) (w : Fin 1024 → Fin 5632 → EReal)
    (hx : x = x') : actRow (dotRow (modRow x sc sh) w) = actRow (dotRow (modRow x' sc sh) w) := by rw [hx]

/-- Equal rows of the three row inputs have equal first projections. -/
theorem mix_congr {x x' oa oa' : Fin 1024 → EReal} {ob ob' : Fin 512 → EReal} (sc sh : Fin 1024 → EReal) (wg : Fin 1024 → Fin 2048 → EReal)
    (wa : Fin 1024 → Fin 1024 → EReal) (wb : Fin 512 → Fin 1024 → EReal) (wo : Fin 1024 → Fin 1024 → EReal)
    (hx : x = x') (ha : oa = oa') (hb : ob = ob') :
    dotRow (gateRow (modRow x sc sh) wg (dotRow oa wa) (dotRow ob wb)) wo = dotRow (gateRow (modRow x' sc sh) wg (dotRow oa' wa) (dotRow ob' wb)) wo := by
  rw [hx, ha, hb]

set_option maxHeartbeats 2000000 in
/-- What one grid point leaves in the output block. -/
theorem point (c : Dev nD) (t : Fin cfg0.N) (y : S1x1024x1024.Idx) :
    outsAt0 m c t y = blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (y 1) (y 2) := by
  unfold outsAt0
  frame_out
  canon_tiles x h using (Cert.Cover.cover3 _ _ _ _ _ _ y)
  case piece2 =>
    obtain ⟨r, k, rfl⟩ : ∃ (r : Fin 512) (k : Fin 1024), x = ix3 0 r k := ⟨x 1, x 2, by blk_ext⟩
    have e1 : (y 1 : Fin 1024) = (⟨(r : ℕ), by omega⟩ : Fin 1024) := Fin.ext h1
    have e2 : (y 2 : Fin 1024) = k := Fin.ext h2
    refine Eq.trans ?_ (congrArg₂ (blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) e1.symm e2.symm)
    clear e1 e2
    refine (out0 _ _ _ _ _ r k).trans ?_
    refine lnres_congr _ _ _ _ ?_ ?_
    · refine funext fun k => (mid0 _ _ _ _ _ r k).trans ?_
      refine lnres_congr _ _ _ _ ?_ ?_
      · exact funext fun d => (Cert.Cover.ld3 _ _ _ _ d (by omega)).trans (congrArg _ (congrArg (fun i => ix3 0 i d) (Fin.ext (by first | rfl | (dsimp only; omega)))))
      · refine funext fun k => (mix0 _ _ _ _ _ _ _ _ _ _ _ _ _ _ _ _ _ _ _ _ _ _ (mat (φ := .bf16) (iblk m c 13 t)) (mat (φ := .bf16) (iblk m c 14 t)) (mat (φ := .bf16) (iblk m c 15 t)) ?_ ?_ ?_ ?_ ?_ ?_ ?_ ?_ ?_ ?_ ?_ ?_ ?_ ?_ ?_ ?_ r k).trans ?_
        case refine_17 =>
          refine congrFun (mix_congr _ _ _ _ _ _ ?_ ?_ ?_) k
          all_goals (exact funext fun d => (Cert.Cover.ld3 _ _ _ _ d (by omega)).trans (congrArg _ (congrArg (fun i => ix3 0 i d) (Fin.ext (by first | rfl | (dsimp only; omega))))))
        all_goals (exact fun d j => (Cert.Cover.ld2 _ _ _ d j (by omega)).trans (congrArg _ (congrArg (ix2 d) (Fin.ext (by first | rfl | (dsimp only; omega))))))
    · refine (funext fun k => act0 _ _ _ _ _ _ _ _ _ _ _ _ _ _ _ _ _ _ _ _ _ _ _ _ _ _ _ _ _ (mat (φ := .bf16) (iblk m c 17 t)) ?_ ?_ ?_ ?_ ?_ ?_ ?_ ?_ ?_ ?_ ?_ ?_ ?_ ?_ ?_ ?_ ?_ ?_ ?_ ?_ ?_ ?_ r k).trans ?_
      case refine_23 =>
        refine ffn_congr _ _ _ _ ?_
        refine funext fun k => (mid0 _ _ _ _ _ r k).trans ?_
        refine lnres_congr _ _ _ _ ?_ ?_
        · exact funext fun d => (Cert.Cover.ld3 _ _ _ _ d (by omega)).trans (congrArg _ (congrArg (fun i => ix3 0 i d) (Fin.ext (by first | rfl | (dsimp only; omega)))))
        · refine funext fun k => (mix0 _ _ _ _ _ _ _ _ _ _ _ _ _ _ _ _ _ _ _ _ _ _ (mat (φ := .bf16) (iblk m c 13 t)) (mat (φ := .bf16) (iblk m c 14 t)) (mat (φ := .bf16) (iblk m c 15 t)) ?_ ?_ ?_ ?_ ?_ ?_ ?_ ?_ ?_ ?_ ?_ ?_ ?_ ?_ ?_ ?_ r k).trans ?_
          case refine_17 =>
            refine congrFun (mix_congr _ _ _ _ _ _ ?_ ?_ ?_) k
            all_goals (exact funext fun d => (Cert.Cover.ld3 _ _ _ _ d (by omega)).trans (congrArg _ (congrArg (fun i => ix3 0 i d) (Fin.ext (by first | rfl | (dsimp only; omega))))))
          all_goals (exact fun d j => (Cert.Cover.ld2 _ _ _ d j (by omega)).trans (congrArg _ (congrArg (ix2 d) (Fin.ext (by first | rfl | (dsimp only; omega))))))
      all_goals (exact fun d j hj => (Cert.Cover.ld2 _ _ _ d j (by omega)).trans (congrArg _ (congrArg (ix2 d) (Fin.ext (by first | rfl | (dsimp only; omega))))))
  case piece0 =>
    obtain ⟨r, k, rfl⟩ : ∃ (r : Fin 256) (k : Fin 1024), x = ix3 0 r k := ⟨x 1, x 2, by blk_ext⟩
    have e1 : (y 1 : Fin 1024) = (⟨512 + (256 + (r : ℕ)), by omega⟩ : Fin 1024) := Fin.ext (h1.trans (by show 768 + (r : ℕ) = 512 + (256 + (r : ℕ)); omega))
    have e2 : (y 2 : Fin 1024) = k := Fin.ext h2
    refine Eq.trans ?_ (congrArg₂ (blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) e1.symm e2.symm)
    clear e1 e2
    refine (out2 _ _ _ _ _ _ r k).trans ?_
    refine lnres_congr _ _ _ _ ?_ ?_
    · refine funext fun k => (mid1 _ _ _ _ _ _ k).trans ?_
      refine lnres_congr _ _ _ _ ?_ ?_
      · exact funext fun d => (Cert.Cover.ld3 _ _ _ _ d (by omega)).trans (congrArg _ (congrArg (fun i => ix3 0 i d) (Fin.ext (by first | rfl | (dsimp only; omega)))))
      · refine funext fun k => (mix1 _ _ _ _ _ _ _ _ _ _ _ _ _ _ _ _ _ _ _ _ _ _ (mat (φ := .bf16) (iblk m c 13 t)) (mat (φ := .bf16) (iblk m c 14 t)) (mat (φ := .bf16) (iblk m c 15 t)) ?_ ?_ ?_ ?_ ?_ ?_ ?_ ?_ ?_ ?_ ?_ ?_ ?_ ?_ ?_ ?_ _ k).trans ?_
        case refine_17 =>
          refine congrFun (mix_congr _ _ _ _ _ _ ?_ ?_ ?_) k
          all_goals (exact funext fun d => (Cert.Cover.ld3 _ _ _ _ d (by omega)).trans (congrArg _ (congrArg (fun i => ix3 0 i d) (Fin.ext (by first | rfl | (dsimp only; omega))))))
        all_goals (exact fun d j => (Cert.Cover.ld2 _ _ _ d j (by omega)).trans (congrArg _ (congrArg (ix2 d) (Fin.ext (by first | rfl | (dsimp only; omega))))))
    · refine congrArg (fun h => dotRow h (mat (φ := .bf16) (iblk m c 18 t))) ?_
      refine (funext fun k => act1 _ _ _ _ _ _ _ _ _ _ _ _ _ _ _ _ _ _ _ _ _ _ _ _ _ _ _ (mat (φ := .bf16) (iblk m c 17 t)) ?_ ?_ ?_ ?_ ?_ ?_ ?_ ?_ ?_ ?_ ?_ ?_ ?_ ?_ ?_ ?_ ?_ ?_ ?_ ?_ ?_ ?_ _ k).trans ?_
      case refine_23 =>
        refine act_congr _ _ _ ?_
        refine funext fun k => (mid1 _ _ _ _ _ _ k).trans ?_
        refine lnres_congr _ _ _ _ ?_ ?_
        · exact funext fun d => (Cert.Cover.ld3 _ _ _ _ d (by omega)).trans (congrArg _ (congrArg (fun i => ix3 0 i d) (Fin.ext (by first | rfl | (dsimp only; omega)))))
        · refine funext fun k => (mix1 _ _ _ _ _ _ _ _ _ _ _ _ _ _ _ _ _ _ _ _ _ _ (mat (φ := .bf16) (iblk m c 13 t)) (mat (φ := .bf16) (iblk m c 14 t)) (mat (φ := .bf16) (iblk m c 15 t)) ?_ ?_ ?_ ?_ ?_ ?_ ?_ ?_ ?_ ?_ ?_ ?_ ?_ ?_ ?_ ?_ _ k).trans ?_
          case refine_17 =>
            refine congrFun (mix_congr _ _ _ _ _ _ ?_ ?_ ?_) k
            all_goals (exact funext fun d => (Cert.Cover.ld3 _ _ _ _ d (by omega)).trans (congrArg _ (congrArg (fun i => ix3 0 i d) (Fin.ext (by first | rfl | (dsimp only; omega))))))
          all_goals (exact fun d j => (Cert.Cover.ld2 _ _ _ d j (by omega)).trans (congrArg _ (congrArg (ix2 d) (Fin.ext (by first | rfl | (dsimp only; omega))))))
      all_goals (exact fun d j hj => (Cert.Cover.ld2 _ _ _ d j (by omega)).trans (congrArg _ (congrArg (ix2 d) (Fin.ext (by first | rfl | (dsimp only; omega))))))
  case piece1 =>
    obtain ⟨r, k, rfl⟩ : ∃ (r : Fin 256) (k : Fin 1024), x = ix3 0 r k := ⟨x 1, x 2, by blk_ext⟩
    have e1 : (y 1 : Fin 1024) = (⟨512 + (0 + (r : ℕ)), by omega⟩ : Fin 1024) := Fin.ext (h1.trans (by show 512 + (r : ℕ) = 512 + (0 + (r : ℕ)); omega))
    have e2 : (y 2 : Fin 1024) = k := Fin.ext h2
    refine Eq.trans ?_ (congrArg₂ (blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) e1.symm e2.symm)
    clear e1 e2
    refine (out1 _ _ _ _ _ _ r k).trans ?_
    refine lnres_congr _ _ _ _ ?_ ?_
    · refine funext fun k => (mid1 _ _ _ _ _ _ k).trans ?_
      refine lnres_congr _ _ _ _ ?_ ?_
      · exact funext fun d => (Cert.Cover.ld3 _ _ _ _ d (by omega)).trans (congrArg _ (congrArg (fun i => ix3 0 i d) (Fin.ext (by first | rfl | (dsimp only; omega)))))
      · refine funext fun k => (mix1 _ _ _ _ _ _ _ _ _ _ _ _ _ _ _ _ _ _ _ _ _ _ (mat (φ := .bf16) (iblk m c 13 t)) (mat (φ := .bf16) (iblk m c 14 t)) (mat (φ := .bf16) (iblk m c 15 t)) ?_ ?_ ?_ ?_ ?_ ?_ ?_ ?_ ?_ ?_ ?_ ?_ ?_ ?_ ?_ ?_ _ k).trans ?_
        case refine_17 =>
          refine congrFun (mix_congr _ _ _ _ _ _ ?_ ?_ ?_) k
          all_goals (exact funext fun d => (Cert.Cover.ld3 _ _ _ _ d (by omega)).trans (congrArg _ (congrArg (fun i => ix3 0 i d) (Fin.ext (by first | rfl | (dsimp only; omega))))))
        all_goals (exact fun d j => (Cert.Cover.ld2 _ _ _ d j (by omega)).trans (congrArg _ (congrArg (ix2 d) (Fin.ext (by first | rfl | (dsimp only; omega))))))
    · refine congrArg (fun h => dotRow h (mat (φ := .bf16) (iblk m c 18 t))) ?_
      refine (funext fun k => act1 _ _ _ _ _ _ _ _ _ _ _ _ _ _ _ _ _ _ _ _ _ _ _ _ _ _ _ (mat (φ := .bf16) (iblk m c 17 t)) ?_ ?_ ?_ ?_ ?_ ?_ ?_ ?_ ?_ ?_ ?_ ?_ ?_ ?_ ?_ ?_ ?_ ?_ ?_ ?_ ?_ ?_ _ k).trans ?_
      case refine_23 =>
        refine act_congr _ _ _ ?_
        refine funext fun k => (mid1 _ _ _ _ _ _ k).trans ?_
        refine lnres_congr _ _ _ _ ?_ ?_
        · exact funext fun d => (Cert.Cover.ld3 _ _ _ _ d (by omega)).trans (congrArg _ (congrArg (fun i => ix3 0 i d) (Fin.ext (by first | rfl | (dsimp only; omega)))))
        · refine funext fun k => (mix1 _ _ _ _ _ _ _ _ _ _ _ _ _ _ _ _ _ _ _ _ _ _ (mat (φ := .bf16) (iblk m c 13 t)) (mat (φ := .bf16) (iblk m c 14 t)) (mat (φ := .bf16) (iblk m c 15 t)) ?_ ?_ ?_ ?_ ?_ ?_ ?_ ?_ ?_ ?_ ?_ ?_ ?_ ?_ ?_ ?_ _ k).trans ?_
          case refine_17 =>
            refine congrFun (mix_congr _ _ _ _ _ _ ?_ ?_ ?_) k
            all_goals (exact funext fun d => (Cert.Cover.ld3 _ _ _ _ d (by omega)).trans (congrArg _ (congrArg (fun i => ix3 0 i d) (Fin.ext (by first | rfl | (dsimp only; omega))))))
          all_goals (exact fun d j => (Cert.Cover.ld2 _ _ _ d j (by omega)).trans (congrArg _ (congrArg (ix2 d) (Fin.ext (by first | rfl | (dsimp only; omega))))))
      all_goals (exact fun d j hj => (Cert.Cover.ld2 _ _ _ d j (by omega)).trans (congrArg _ (congrArg (ix2 d) (Fin.ext (by first | rfl | (dsimp only; omega))))))

end Cert.Kernel2Ideal.Post
-- ==== Proof.PostBlocks.lean ====
module

public import proofs.«01_k».proof.Proof.Gen.Kernel2Ideal.Value
public import proofs.«01_k».proof.Proof.Rows
public import Idealize.ShloMosaic.Lib.Pipeline.ValueKit
public import Idealize.ShloMosaic.Lib.Pointwise
public import Idealize.ShloMosaic.Lib.Claim

/-! The closing call's input blocks at a grid point, read at an index, in terms of the program's arguments. -/
set_option maxRecDepth 16384
@[expose] public noncomputable section
open Idealize.ShloMosaic Idealize.ShloMosaic.TcCoe Idealize.SL.Sem
open Idealize.ShloMosaic.Pipeline (Dat)
namespace Cert.Kernel2Ideal.Post
open Cert.Kernel2Ideal Cert.Kernel2Ideal.Gen Cert.Rows
variable (m : (ℓ : Loc nD τ sig) → Buf (Elt Ideal) ℓ)

/-- The block every window has at a grid point: token blocks follow the point, conditioning blocks its sequence, the rest is fixed. -/
theorem idx : ∀ t : Fin cfg0.N, t.val < 32 ∧ win0_0.index t = ![t.val / 2, t.val % 2, 0] ∧ win0_1.index t = ![t.val / 2, t.val % 2, 0] ∧ win0_2.index t = ![t.val / 2, t.val % 2, 0] ∧ win0_19.index t = ![t.val / 2, t.val % 2, 0] ∧ win0_3.index t = ![t.val / 2, 0, 1] ∧ win0_4.index t = ![t.val / 2, 0, 0] ∧ win0_5.index t = ![t.val / 2, 0, 2] ∧ win0_6.index t = ![t.val / 2, 0, 3] ∧ win0_7.index t = ![t.val / 2, 0, 4] ∧ win0_8.index t = ![t.val / 2, 0, 5] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] :=
  (by decide +kernel : ∀ t : Fin grid0.N, _)

/-- The sequence of a grid point. -/
abbrev seqOf (t : Fin cfg0.N) : Fin 16 := ⟨t.val / 2, by have := (idx t).1; omega⟩
/-- The token of row `r` of a grid point's block. -/
abbrev tokOf (t : Fin cfg0.N) (r : Fin 1024) : Fin 2048 := ⟨t.val % 2 * 1024 + r, by omega⟩

theorem blk0 (c : Dev nD) (t : Fin cfg0.N) (r : Fin 1024) (d : Fin 1024) : iblk m c 0 t (ix3 0 r d) = m ((c : Thread nD τ).loc main_arg0) (ix3 (seqOf t) (tokOf t r) d) := by
  blk_ext [iblk, V, idx t]
theorem blk1 (c : Dev nD) (t : Fin cfg0.N) (r : Fin 1024) (d : Fin 1024) : iblk m c 1 t (ix3 0 r d) = m ((c : Thread nD τ).loc main_arg1) (ix3 (seqOf t) (tokOf t r) d) := by
  blk_ext [iblk, V, idx t]
theorem blk2 (c : Dev nD) (t : Fin cfg0.N) (r : Fin 1024) (d : Fin 512) : iblk m c 2 t (ix3 0 r d) = m ((c : Thread nD τ).loc main_arg2) (ix3 (seqOf t) (tokOf t r) d) := by
  blk_ext [iblk, V, idx t]
theorem blk3 (c : Dev nD) (t : Fin cfg0.N) (d : Fin 1024) : iblk m c 3 t (ix3 0 0 d) = m ((c : Thread nD τ).loc main_arg3) (ix2 (seqOf t) ⟨1024 + d, by omega⟩) := by
  blk_simp [iblk, idx t]; entry_read; pointwise; blk_ext [idx t]
theorem blk4 (c : Dev nD) (t : Fin cfg0.N) (d : Fin 1024) : iblk m c 4 t (ix3 0 0 d) = m ((c : Thread nD τ).loc main_arg3) (ix2 (seqOf t) ⟨0 + d, by omega⟩) := by
  blk_simp [iblk, idx t]; entry_read; pointwise; blk_ext [idx t]
theorem blk5 (c : Dev nD) (t : Fin cfg0.N) (d : Fin 1024) : iblk m c 5 t (ix3 0 0 d) = m ((c : Thread nD τ).loc main_arg3) (ix2 (seqOf t) ⟨2048 + d, by omega⟩) := by
  blk_simp [iblk, idx t]; entry_read; pointwise; blk_ext [idx t]
theorem blk6 (c : Dev nD) (t : Fin cfg0.N) (d : Fin 1024) : iblk m c 6 t (ix3 0 0 d) = m ((c : Thread nD τ).loc main_arg3) (ix2 (seqOf t) ⟨3072 + d, by omega⟩) := by
  blk_simp [iblk, idx t]; entry_read; pointwise; blk_ext [idx t]
theorem blk7 (c : Dev nD) (t : Fin cfg0.N) (d : Fin 1024) : iblk m c 7 t (ix3 0 0 d) = m ((c : Thread nD τ).loc main_arg3) (ix2 (seqOf t) ⟨4096 + d, by omega⟩) := by
  blk_simp [iblk, idx t]; entry_read; pointwise; blk_ext [idx t]
theorem blk8 (c : Dev nD) (t : Fin cfg0.N) (d : Fin 1024) : iblk m c 8 t (ix3 0 0 d) = m ((c : Thread nD τ).loc main_arg3) (ix2 (seqOf t) ⟨5120 + d, by omega⟩) := by
  blk_simp [iblk, idx t]; entry_read; pointwise; blk_ext [idx t]
theorem blk9 (c : Dev nD) (t : Fin cfg0.N) (d : Fin 1024) : iblk m c 9 t (ix2 0 d) = m ((c : Thread nD τ).loc main_arg8) (ix1 d) := by
  blk_simp [iblk, idx t]; entry_read; pointwise; blk_ext [idx t]
theorem blk10 (c : Dev nD) (t : Fin cfg0.N) (d : Fin 1024) : iblk m c 10 t (ix2 0 d) = m ((c : Thread nD τ).loc main_arg9) (ix1 d) := by
  blk_simp [iblk, idx t]; entry_read; pointwise; blk_ext [idx t]
theorem blk11 (c : Dev nD) (t : Fin cfg0.N) (d : Fin 1024) : iblk m c 11 t (ix2 0 d) = m ((c : Thread nD τ).loc main_arg12) (ix1 d) := by
  blk_simp [iblk, idx t]; entry_read; pointwise; blk_ext [idx t]
theorem blk12 (c : Dev nD) (t : Fin cfg0.N) (d : Fin 1024) : iblk m c 12 t (ix2 0 d) = m ((c : Thread nD τ).loc main_arg13) (ix1 d) := by
  blk_simp [iblk, idx t]; entry_read; pointwise; blk_ext [idx t]
theorem blk13 (c : Dev nD) (t : Fin cfg0.N) (d : Fin 1024) (e : Fin 2048) : iblk m c 13 t (ix2 d e) = m ((c : Thread nD τ).loc main_arg4) (ix2 d ⟨5888 + e, by omega⟩) := by
  blk_simp [iblk, idx t]; entry_read; pointwise; blk_ext [idx t]
theorem blk14 (c : Dev nD) (t : Fin cfg0.N) (d : Fin 1024) (e : Fin 1024) : iblk m c 14 t (ix2 d e) = m ((c : Thread nD τ).loc main_arg5) (ix2 d e) := by
  blk_simp [iblk, idx t]; entry_read; pointwise; blk_ext [idx t]
theorem blk15 (c : Dev nD) (t : Fin cfg0.N) (d : Fin 512) (e : Fin 1024) : iblk m c 15 t (ix2 d e) = m ((c : Thread nD τ).loc main_arg6) (ix2 d e) := by
  blk_simp [iblk, idx t]; entry_read; pointwise; blk_ext [idx t]
theorem blk16 (c : Dev nD) (t : Fin cfg0.N) (d : Fin 1024) (e : Fin 1024) : iblk m c 16 t (ix2 d e) = m ((c : Thread nD τ).loc main_arg7) (ix2 d e) := by
  blk_simp [iblk, idx t]; entry_read; pointwise; blk_ext [idx t]
theorem blk17 (c : Dev nD) (t : Fin cfg0.N) (d : Fin 1024) (e : Fin 5632) : iblk m c 17 t (ix2 d e) = m ((c : Thread nD τ).loc main_arg10) (ix2 d e) := by
  blk_simp [iblk, idx t]; entry_read; pointwise; blk_ext [idx t]
theorem blk18 (c : Dev nD) (t : Fin cfg0.N) (d : Fin 2816) (e : Fin 1024) : iblk m c 18 t (ix2 d e) = m ((c : Thread nD τ).loc main_arg11) (ix2 d e) := by
  blk_simp [iblk, idx t]; entry_read; pointwise; blk_ext [idx t]

end Cert.Kernel2Ideal.Post
-- ==== Proof.PostFinal.lean ====
module

public import proofs.«01_k».proof.Proof.PostPoint
public import proofs.«01_k».proof.Proof.PostBlocks

/-! The closing call's result array after the run: at every token and column the row functions of the arguments. -/
set_option maxRecDepth 16384
@[expose] public noncomputable section
open Idealize.ShloMosaic Idealize.ShloMosaic.TcCoe Idealize.SL.Sem
open Idealize.ShloMosaic.Pipeline (Dat)
namespace Cert.Kernel2Ideal.Post
open Cert.Kernel2Ideal Cert.Kernel2Ideal.Gen Cert.Rows
variable (m : (ℓ : Loc nD τ sig) → Buf (Elt Ideal) ℓ)

/-- The layer's result at an index, from the program's arguments on core `c`. -/
def token (c : Dev nD) : Fin 16 → Fin 2048 → Fin 1024 → EReal :=
  tokenRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- A grid point's block row is the layer's result at the block's token. -/
theorem blockRow_eq (c : Dev nD) (t : Fin cfg0.N) (r k : Fin 1024) :
    blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) r k = token m c (seqOf t) (tokOf t r) k := by
  unfold blockRow token tokenRow
  have e0 : brow (φ := .f32) (iblk m c 0 t) r = _ := funext fun d => blk0 m c t r d
  have e1 : brow (φ := .bf16) (iblk m c 1 t) r = _ := funext fun d => blk1 m c t r d
  have e2 : brow (φ := .bf16) (iblk m c 2 t) r = _ := funext fun d => blk2 m c t r d
  have e3 : brow (φ := .f32) (iblk m c 3 t) 0 = _ := funext fun d => blk3 m c t d
  have e4 : brow (φ := .f32) (iblk m c 4 t) 0 = _ := funext fun d => blk4 m c t d
  have e5 : brow (φ := .f32) (iblk m c 5 t) 0 = _ := funext fun d => blk5 m c t d
  have e6 : brow (φ := .f32) (iblk m c 6 t) 0 = _ := funext fun d => blk6 m c t d
  have e7 : brow (φ := .f32) (iblk m c 7 t) 0 = _ := funext fun d => blk7 m c t d
  have e8 : brow (φ := .f32) (iblk m c 8 t) 0 = _ := funext fun d => blk8 m c t d
  have e9 : row1 (φ := .f32) (iblk m c 9 t) = _ := funext fun d => blk9 m c t d
  have e10 : row1 (φ := .f32) (iblk m c 10 t) = _ := funext fun d => blk10 m c t d
  have e11 : row1 (φ := .f32) (iblk m c 11 t) = _ := funext fun d => blk11 m c t d
  have e12 : row1 (φ := .f32) (iblk m c 12 t) = _ := funext fun d => blk12 m c t d
  have e13 : mat (φ := .bf16) (iblk m c 13 t) = _ := funext fun d => funext fun e => blk13 m c t d e
  have e14 : mat (φ := .bf16) (iblk m c 14 t) = _ := funext fun d => funext fun e => blk14 m c t d e
  have e15 : mat (φ := .bf16) (iblk m c 15 t) = _ := funext fun d => funext fun e => blk15 m c t d e
  have e16 : mat (φ := .bf16) (iblk m c 16 t) = _ := funext fun d => funext fun e => blk16 m c t d e
  have e17 : mat (φ := .bf16) (iblk m c 17 t) = _ := funext fun d => funext fun e => blk17 m c t d e
  have e18 : mat (φ := .bf16) (iblk m c 18 t) = _ := funext fun d => funext fun e => blk18 m c t d e
  rw [e0, e1, e2, e3, e4, e5, e6, e7, e8, e9, e10, e11, e12, e13, e14, e15, e16, e17, e18]
  simp only [Nat.reduceMul, Nat.zero_add]

/-- After the run the result array holds the layer's result everywhere. -/
theorem final (c : Dev nD) : (dats m 0 c).arrAt 19 (cfgs 0).N = fun i => token m c (i 0) (i 1) (i 2) := by
  refine (dats m 0 c).arrAt_eq_of_covers 19 _ (by decide +kernel) fun t hf y => ?_
  blk_simp
  rw [after0_19]
  refine (point m c t y).trans ((blockRow_eq m c t _ _).trans ?_)
  have h0 : (y 0 : ℕ) < 1 := (y 0).isLt
  refine congr (congrArg₂ (token m c) (Fin.ext ?_) (Fin.ext ?_)) (Fin.ext ?_)
  all_goals blk_simp [idx t]

end Cert.Kernel2Ideal.Post
-- ==== Proof.PostReference.lean ====
module

public import proofs.«01_k».proof.Proof.Rows
public import proofs.«01_k».proof.Proof.Gen.Reference2Ideal.Read
public import Idealize.ShloMosaic.Lib.Pipeline.ValueKit
public import Idealize.ShloMosaic.Lib.Pointwise

/-! The reference for the layer's closing half, read at an index: at every token the same row functions. -/
set_option maxRecDepth 16384
@[expose] public noncomputable section
open Idealize.ShloMosaic Idealize.ShloMosaic.TcCoe Idealize.SL.Sem
namespace Cert.Reference2Ideal.Post
open Cert.Reference2Ideal Cert.Reference2Ideal.Gen Cert.Reference2Ideal.Read Cert.Rows
variable (x0 : FVec Ideal S16x2048x1024 .f32) (x1 : FVec Ideal S16x2048x1024 .bf16) (x2 : FVec Ideal S16x2048x512 .bf16) (x3 : FVec Ideal S16x6144 .f32)
  (x4 : FVec Ideal S1024x7936 .f32) (x5 : FVec Ideal S1024x1024 .f32) (x6 : FVec Ideal S512x1024 .f32) (x7 : FVec Ideal S1024x1024 .f32)
  (x8 x9 : FVec Ideal S1024 .f32) (x10 : FVec Ideal S1024x5632 .f32) (x11 : FVec Ideal S2816x1024 .f32) (x12 x13 : FVec Ideal S1024 .f32)

/-- The modulated row. -/
theorem u_at (b : Fin 16) (s : Fin 2048) (k : Fin 1024) : val_main_v12 (F := Ideal) x0 x3 (ix3 b s k) = modRow (fun d => x0 (ix3 b s d)) (fun d => x3 (ix2 b ⟨1024 + d, by omega⟩)) (fun d => x3 (ix2 b ⟨d, by omega⟩)) k := by
  pointwise [val_main_v0, val_main_v1, val_main_v2, val_main_v3, val_main_v4, val_main_v5, val_main_v6, val_main_cst, val_main_v7, val_main_v8, val_main_v9, val_main_v10, val_main_v11, val_main_v12]
  simp only [modRow]
  blk_ext

/-- The output projection of the gated branches, over the modulated row. -/
theorem y_at (b : Fin 16) (s : Fin 2048) (k : Fin 1024) : val_main_v36 (F := Ideal) x0 x1 x2 x3 x4 x5 x6 x7 (ix3 b s k) = dotRow (gateRow (fun d => val_main_v12 (F := Ideal) x0 x3 (ix3 b s d)) (fun d e => x4 (ix2 d ⟨5888 + e, by omega⟩)) (dotRow (fun d => x1 (ix3 b s d)) fun d e => x5 (ix2 d e)) (dotRow (fun d => x2 (ix3 b s d)) fun d e => x6 (ix2 d e))) (fun d e => x7 (ix2 d e)) k := by
  pointwise [val_main_v13, val_main_v14, val_main_v15, val_main_v16, val_main_v17, val_main_v18, val_main_v19, val_main_v20, val_main_v21, val_main_v22, val_main_cst_0, val_main_v23, val_main_v24, val_main_cst_1, val_main_v25, val_main_v26, val_main_v27, val_main_v28, val_main_v29, val_main_cst_2, val_main_v30, val_main_v31, val_main_cst_3, val_main_v32, val_main_v33, val_main_v34, val_main_v35, val_main_v36]
  simp only [dotRow, gateRow, Ideal.logistic]

/-- The first normalisation, over the output projection. -/
theorem mid_at (b : Fin 16) (s : Fin 2048) (k : Fin 1024) : val_main_v65 (F := Ideal) x0 x1 x2 x3 x4 x5 x6 x7 x8 x9 (ix3 b s k) = lnRow (resRow (fun d => x0 (ix3 b s d)) (fun d => x3 (ix2 b ⟨2048 + d, by omega⟩)) (fun d => val_main_v36 (F := Ideal) x0 x1 x2 x3 x4 x5 x6 x7 (ix3 b s d))) (fun d => x8 (ix1 d)) (fun d => x9 (ix1 d)) k := by
  pointwise [val_main_v0, val_main_v3, val_main_cst_4, val_main_v37, val_main_v38, val_main_cst_5, val_main_v39, val_main_v40, val_main_v41, val_main_v42, val_main_v43, val_main_cst_6, val_main_v44, val_main_v45, val_main_cst_7, val_main_v46, val_main_v47, val_main_v48, val_main_v49, val_main_v50, val_main_cst_8, val_main_v51, val_main_v52, val_main_cst_9, val_main_v53, val_main_v54, val_main_cst_10, val_main_v55, val_main_v56, val_main_v57, val_main_v58, val_main_v59, val_main_v60, val_main_v61, val_main_v62, val_main_v63, val_main_v64, val_main_v65]
  simp only [lnRow, resRow, meanRow]

/-- The feed-forward layer, over the first normalisation. -/
theorem down_at (b : Fin 16) (s : Fin 2048) (k : Fin 1024) : val_main_v77 (F := Ideal) x0 x1 x2 x3 x4 x5 x6 x7 x8 x9 x10 x11 (ix3 b s k) = dotRow (actRow (dotRow (modRow (fun d => val_main_v65 (F := Ideal) x0 x1 x2 x3 x4 x5 x6 x7 x8 x9 (ix3 b s d)) (fun d => x3 (ix2 b ⟨4096 + d, by omega⟩)) (fun d => x3 (ix2 b ⟨3072 + d, by omega⟩))) fun d e => x10 (ix2 d e))) (fun d e => x11 (ix2 d e)) k := by
  pointwise [val_main_v0, val_main_v4, val_main_v5, val_main_cst_11, val_main_v66, val_main_v67, val_main_v68, val_main_v69, val_main_v70, val_main_v71, val_main_v72, val_main_v73, val_main_v74, val_main_call0_v0, val_main_call0_v1, val_main_call0_cst, val_main_call0_v2, val_main_call0_v3, val_main_call0_cst_0, val_main_call0_v4, val_main_call0_v5, val_main_v75, val_main_v76, val_main_v77]
  simp only [dotRow, actRow, modRow, Ideal.logistic]

/-- The second normalisation, over the first and the feed-forward layer. -/
theorem out_at (b : Fin 16) (s : Fin 2048) (k : Fin 1024) : val_main_v106 (F := Ideal) x0 x1 x2 x3 x4 x5 x6 x7 x8 x9 x10 x11 x12 x13 (ix3 b s k) = lnRow (resRow (fun d => val_main_v65 (F := Ideal) x0 x1 x2 x3 x4 x5 x6 x7 x8 x9 (ix3 b s d)) (fun d => x3 (ix2 b ⟨5120 + d, by omega⟩)) (fun d => val_main_v77 (F := Ideal) x0 x1 x2 x3 x4 x5 x6 x7 x8 x9 x10 x11 (ix3 b s d))) (fun d => x12 (ix1 d)) (fun d => x13 (ix1 d)) k := by
  pointwise [val_main_v0, val_main_v6, val_main_cst_12, val_main_v78, val_main_v79, val_main_cst_13, val_main_v80, val_main_v81, val_main_v82, val_main_v83, val_main_v84, val_main_cst_14, val_main_v85, val_main_v86, val_main_cst_15, val_main_v87, val_main_v88, val_main_v89, val_main_v90, val_main_v91, val_main_cst_16, val_main_v92, val_main_v93, val_main_cst_17, val_main_v94, val_main_v95, val_main_cst_18, val_main_v96, val_main_v97, val_main_v98, val_main_v99, val_main_v100, val_main_v101, val_main_v102, val_main_v103, val_main_v104, val_main_v105, val_main_v106]
  simp only [lnRow, resRow, meanRow]

/-- The reference's result at an index. -/
theorem token_at (b : Fin 16) (s : Fin 2048) (k : Fin 1024) : val_main_v106 (F := Ideal) x0 x1 x2 x3 x4 x5 x6 x7 x8 x9 x10 x11 x12 x13 (ix3 b s k) = tokenRow x0 x1 x2 x3 x4 x5 x6 x7 x8 x9 x10 x11 x12 x13 b s k := by
  rw [out_at]
  simp only [down_at, mid_at, y_at, u_at]
  rfl

end Cert.Reference2Ideal.Post
-- ==== Proof.InprojTile.lean ====
module

public import proofs.«01_k».proof.Proof.Gen.Kernel3Ideal.Skeleton
public import proofs.«01_k».proof.Proof.Rows
public import Idealize.ShloMosaic.Lib.Pointwise
public import Idealize.ShloMosaic.Lib.KernelVsHost

/-! The input projection's vector operations for one half of 512 rows of a block, and what they leave at an index: the
modulated rows times columns of the weight, the queries and keys rotated by the position's angles. -/
set_option maxRecDepth 16384
@[expose] public noncomputable section
open Idealize.ShloMosaic Idealize.ShloMosaic.TcCoe Idealize.SL.Sem
namespace Cert.Kernel3Ideal.Inproj
open Cert.Kernel3Ideal Cert.Kernel3Ideal.Gen Cert.Rows

/-- The lane that a lane is rotated with: 32 lanes on in the first half of a head, 32 lanes back in the second. -/
def mate (l : ℕ) : ℕ := if l % 64 < 32 then l + 32 else l - 32

/-- Column `e` of the columns from `o` on, rotated within its head of 64 by the angles' cosines and sines. -/
def rotated (p : ℕ → EReal) (cs sn : ℕ → EReal) (o e : ℕ) : EReal :=
  p (o + e) * cs (e % 32) + p (o + mate e) * (if e % 64 < 32 then -sn (e % 32) else sn (e % 32))

/-- A slab of 128 columns, rotated by the tables. -/
def roped (y c s : FVec Ideal S512x128 .f32) : FVec Ideal S512x128 .f32 :=
  addf (mulf y c) (mulf (select k0_pay5 (dynamicRotate 1 96#32 none y rotates_S512x128_d1) (dynamicRotate 1 32#32 none y rotates_S512x128_d1)) s)

/-- The queries' scale applied. -/
def scaled (y : FVec Ideal S512x128 .f32) : FVec Ideal S512x128 .bf16 :=
  truncf .bf16 (mulf y (broadcast S512x128 (Named.named κ "qscale" 0x3E38AA3B#32 : Ideal .f32))) bitsLt_bf16_f32
/-- No scale applied. -/
def unscaled (y : FVec Ideal S512x128 .f32) : FVec Ideal S512x128 .bf16 := truncf .bf16 y bitsLt_bf16_f32

/-- The rows times 512 columns of the weight. -/
def proj (u : FVec Ideal S512x1024 .bf16) (w : Vec Ideal S1024x512 .bf16) : FVec Ideal S512x512 .f32 :=
  matmul dot_S512x1024_S1024x512_S512x512_1_0_0_1_n_n none u (shapeCast S1024x512 w shapeCasts_S1024x512_S1024x512 : FVec Ideal S1024x512 .bf16) (constant S512x512 .f32 0x00000000#32)
/-- The rows times 256 columns of the weight. -/
def proj2 (u : FVec Ideal S512x1024 .bf16) (w : Vec Ideal S1024x256 .bf16) : FVec Ideal S512x256 .f32 :=
  matmul dot_S512x1024_S1024x256_S512x256_1_0_0_1_n_n none u (shapeCast S1024x256 w shapeCasts_S1024x256_S1024x256 : FVec Ideal S1024x256 .bf16) (constant S512x256 .f32 0x00000000#32)

/-- Four slabs side by side. -/
def beside (a b c d : FVec Ideal S512x128 .bf16) : FVec Ideal S512x512 .bf16 :=
  concatenate S512x512 1 [⟨S512x128, a⟩, ⟨S512x128, b⟩, ⟨S512x128, c⟩, ⟨S512x128, d⟩] concatenates_S512x128_S512x128_S512x128_S512x128_S512x512_d1

/-- Slab 0 of 512 columns, … -/
def slab0 (y : FVec Ideal S512x512 .f32) : FVec Ideal S512x128 .f32 := extractStridedSlice S512x128 ![0, 0] y slices_S512x512_o0_0_S512x128
/-- … slab 1, … -/
def slab1 (y : FVec Ideal S512x512 .f32) : FVec Ideal S512x128 .f32 := extractStridedSlice S512x128 ![0, 128] y slices_S512x512_o0_128_S512x128
/-- … slab 2 … -/
def slab2 (y : FVec Ideal S512x512 .f32) : FVec Ideal S512x128 .f32 := extractStridedSlice S512x128 ![0, 256] y slices_S512x512_o0_256_S512x128
/-- … and slab 3. -/
def slab3 (y : FVec Ideal S512x512 .f32) : FVec Ideal S512x128 .f32 := extractStridedSlice S512x128 ![0, 384] y slices_S512x512_o0_384_S512x128

/-- 512 columns of queries. -/
def queries (y : FVec Ideal S512x512 .f32) (c s : FVec Ideal S512x128 .f32) : FVec Ideal S512x512 .bf16 :=
  beside (scaled (roped (slab0 y) c s)) (scaled (roped (slab1 y) c s)) (scaled (roped (slab2 y) c s)) (scaled (roped (slab3 y) c s))
/-- 512 columns of keys. -/
def keys (y : FVec Ideal S512x512 .f32) (c s : FVec Ideal S512x128 .f32) : FVec Ideal S512x512 .bf16 :=
  beside (unscaled (roped (slab0 y) c s)) (unscaled (roped (slab1 y) c s)) (unscaled (roped (slab2 y) c s)) (unscaled (roped (slab3 y) c s))
/-- 512 columns as a block with a leading unit axis. -/
def lead (y : FVec Ideal S512x512 .bf16) : FVec Ideal S1x512x512 .bf16 := shapeCast S1x512x512 y shapeCasts_S512x512_S1x512x512

/-- Two heads' columns, each head's twice. -/
def twice (y : FVec Ideal S512x128 .f32) : FVec Ideal S1x512x256 .bf16 :=
  shapeCast S1x512x256 (truncf .bf16 (concatenate S512x256 1
    [⟨S512x128, select k0_pay6 y (dynamicRotate 1 64#32 none y rotates_S512x128_d1)⟩,
     ⟨S512x128, select k0_pay6 (dynamicRotate 1 64#32 none y rotates_S512x128_d1) y⟩] concatenates_S512x128_S512x128_S512x256_d1) bitsLt_bf16_f32) shapeCasts_S512x256_S1x512x256
/-- The first 128 of 256 columns. -/
def half0 (y : FVec Ideal S512x256 .f32) : FVec Ideal S512x128 .f32 := extractStridedSlice S512x128 ![0, 0] y slices_S512x256_o0_0_S512x128
/-- The last 128. -/
def half1 (y : FVec Ideal S512x256 .f32) : FVec Ideal S512x128 .f32 := extractStridedSlice S512x128 ![0, 128] y slices_S512x256_o0_128_S512x128

/-- A lane's bit 5 is clear in the first half of a head. -/
theorem lane_and : ∀ l : Fin 128, IntOp.cmpi CmpIPredicate.eq (IntOp.andi (BitVec.ofNat 32 (l : ℕ)) 32#32) 0#32 = if (l : ℕ) % 64 < 32 then 1#1 else 0#1 := by decide +kernel
/-- A lane is below 64. -/
theorem lane_lt : ∀ l : Fin 128, IntOp.cmpi CmpIPredicate.slt (BitVec.ofNat 32 (l : ℕ)) 64#32 = if (l : ℕ) < 64 then 1#1 else 0#1 := by decide +kernel

/-- A rotated slab at an index. -/
theorem roped_at (y c s : FVec Ideal S512x128 .f32) (p : ℕ → EReal) (cs sn : ℕ → EReal) (o q : ℕ) (r : Fin 512) (hq : q % 64 = 0)
    (hy : ∀ l : Fin 128, y (ix2 r l) = p (o + (q + l))) (hc : ∀ l : Fin 128, c (ix2 r l) = cs ((l : ℕ) % 32))
    (hs : ∀ l : Fin 128, s (ix2 r l) = if (l : ℕ) % 64 < 32 then -sn ((l : ℕ) % 32) else sn ((l : ℕ) % 32)) (l : Fin 128) :
    roped y c s (ix2 r l) = rotated p cs sn o (q + l) := by
  have e : (select k0_pay5 (dynamicRotate 1 96#32 none y rotates_S512x128_d1) (dynamicRotate 1 32#32 none y rotates_S512x128_d1)) (ix2 r l) = p (o + mate (q + l)) := by
    unfold k0_pay5
    pointwise
    rw [lane_and l]
    simp only [hy]
    unfold mate
    have hl := l.isLt
    by_cases h : (l : ℕ) % 64 < 32
    · rw [if_pos h, if_pos (by omega)]
      refine (if_pos rfl).trans (congrArg p ?_)
      omega
    · rw [if_neg h, if_neg (by omega)]
      refine (if_neg (by decide)).trans (congrArg p ?_)
      omega
  show y (ix2 r l) * c (ix2 r l) + (select k0_pay5 (dynamicRotate 1 96#32 none y rotates_S512x128_d1) (dynamicRotate 1 32#32 none y rotates_S512x128_d1)) (ix2 r l) * s (ix2 r l) = _
  rw [e, hy, hc, hs]
  unfold rotated
  rw [show (q + (l : ℕ)) % 32 = (l : ℕ) % 32 by omega, show (q + (l : ℕ)) % 64 = (l : ℕ) % 64 by omega]

/-- Four slabs side by side, each holding its part of `f`. -/
theorem beside_at (a b c d : FVec Ideal S512x128 .bf16) (f : ℕ → EReal) (r : Fin 512)
    (ha : ∀ l : Fin 128, a (ix2 r l) = f (0 + l)) (hb : ∀ l : Fin 128, b (ix2 r l) = f (128 + l))
    (hc : ∀ l : Fin 128, c (ix2 r l) = f (256 + l)) (hd : ∀ l : Fin 128, d (ix2 r l) = f (384 + l)) (e : Fin 512) :
    beside a b c d (ix2 r e) = f e := by
  unfold beside
  pointwise
  split
  · refine (ha _).trans (congrArg f ?_); dsimp only; omega
  · split
    · refine (hb _).trans (congrArg f ?_); dsimp only; omega
    · split
      · refine (hc _).trans (congrArg f ?_); dsimp only; omega
      · refine (hd _).trans (congrArg f ?_); dsimp only; omega

/-- A slab's columns. -/
theorem slab_at (y : FVec Ideal S512x512 .f32) (r : Fin 512) (l : Fin 128) :
    slab0 y (ix2 r l) = y (ix2 r ⟨0 + l, by omega⟩) ∧ slab1 y (ix2 r l) = y (ix2 r ⟨128 + l, by omega⟩)
      ∧ slab2 y (ix2 r l) = y (ix2 r ⟨256 + l, by omega⟩) ∧ slab3 y (ix2 r l) = y (ix2 r ⟨384 + l, by omega⟩) := by
  refine ⟨?_, ?_, ?_, ?_⟩
  · unfold slab0; pointwise; all_goals first | rfl | (refine congrArg (fun j => y (ix2 r j)) (Fin.ext ?_); dsimp only; omega)
  · unfold slab1; pointwise; all_goals first | rfl | (refine congrArg (fun j => y (ix2 r j)) (Fin.ext ?_); dsimp only; omega)
  · unfold slab2; pointwise; all_goals first | rfl | (refine congrArg (fun j => y (ix2 r j)) (Fin.ext ?_); dsimp only; omega)
  · unfold slab3; pointwise; all_goals first | rfl | (refine congrArg (fun j => y (ix2 r j)) (Fin.ext ?_); dsimp only; omega)

/-- The queries' scale. -/
def qs : EReal := (((Real.log 256)⁻¹ : ℝ) : EReal)
/-- The named constant is the queries' scale. -/
theorem qs_eq : (Named.named κ "qscale" 0x3E38AA3B#32 : Ideal .f32) = qs :=
  IdealRules.named_const.ideal_named_scalar (φ := .f32) κ "qscale" 0x3E38AA3B#32 (((Real.log 256)⁻¹ : ℝ) : EReal) rfl

section
variable (y : FVec Ideal S512x512 .f32) (c s : FVec Ideal S512x128 .f32) (p : ℕ → EReal) (cs sn : ℕ → EReal) (o : ℕ) (r : Fin 512)

/-- 512 columns of queries at an index. -/
theorem queries_at
    (hy : ∀ j : Fin 512, y (ix2 r j) = p (o + j)) (hc : ∀ l : Fin 128, c (ix2 r l) = cs ((l : ℕ) % 32))
    (hs : ∀ l : Fin 128, s (ix2 r l) = if (l : ℕ) % 64 < 32 then -sn ((l : ℕ) % 32) else sn ((l : ℕ) % 32)) (e : Fin 512) :
    queries y c s (ix2 r e) = rotated p cs sn o e * qs := by
  have k : ∀ (z : FVec Ideal S512x128 .f32) (q : ℕ) (hq : q % 64 = 0) (hz : ∀ l : Fin 128, z (ix2 r l) = p (o + (q + l))) (l : Fin 128),
      scaled (roped z c s) (ix2 r l) = rotated p cs sn o (q + l) * qs := fun z q hq hz l => by
    show roped z c s (ix2 r l) * (Named.named κ "qscale" 0x3E38AA3B#32 : Ideal .f32) = _
    rw [qs_eq, roped_at z c s p cs sn o q r hq hz hc hs l]
  exact beside_at _ _ _ _ (fun e => rotated p cs sn o e * qs) r
    (k _ 0 rfl fun l => (slab_at y r l).1.trans (hy _)) (k _ 128 rfl fun l => (slab_at y r l).2.1.trans (hy _))
    (k _ 256 rfl fun l => (slab_at y r l).2.2.1.trans (hy _)) (k _ 384 rfl fun l => (slab_at y r l).2.2.2.trans (hy _)) e

/-- 512 columns of keys at an index. -/
theorem keys_at
    (hy : ∀ j : Fin 512, y (ix2 r j) = p (o + j)) (hc : ∀ l : Fin 128, c (ix2 r l) = cs ((l : ℕ) % 32))
    (hs : ∀ l : Fin 128, s (ix2 r l) = if (l : ℕ) % 64 < 32 then -sn ((l : ℕ) % 32) else sn ((l : ℕ) % 32)) (e : Fin 512) :
    keys y c s (ix2 r e) = rotated p cs sn o e := by
  have k : ∀ (z : FVec Ideal S512x128 .f32) (q : ℕ) (hq : q % 64 = 0) (hz : ∀ l : Fin 128, z (ix2 r l) = p (o + (q + l))) (l : Fin 128),
      unscaled (roped z c s) (ix2 r l) = rotated p cs sn o (q + l) := fun z q hq hz l =>
    roped_at z c s p cs sn o q r hq hz hc hs l
  exact beside_at _ _ _ _ (fun e => rotated p cs sn o e) r
    (k _ 0 rfl fun l => (slab_at y r l).1.trans (hy _)) (k _ 128 rfl fun l => (slab_at y r l).2.1.trans (hy _))
    (k _ 256 rfl fun l => (slab_at y r l).2.2.1.trans (hy _)) (k _ 384 rfl fun l => (slab_at y r l).2.2.2.trans (hy _)) e
end

/-- Two heads' columns, each head's twice, at an index. -/
theorem twice_at (y : FVec Ideal S512x128 .f32) (f : ℕ → EReal) (r : Fin 512) (h : ∀ l : Fin 128, y (ix2 r l) = f l) (e : Fin 256) :
    twice y (ix3 0 r e) = f ((e : ℕ) / 128 * 64 + (e : ℕ) % 64) := by
  have he := e.isLt
  unfold twice k0_pay6
  pointwise
  split
  · rename_i hl
    simp only [h]
    rw [lane_lt ⟨(e : ℕ), hl⟩]
    by_cases h6 : (e : ℕ) < 64
    · rw [if_pos h6]; exact (if_pos rfl).trans (congrArg f (by omega))
    · rw [if_neg h6]; exact (if_neg (by decide)).trans (congrArg f (by omega))
  · rename_i hl
    simp only [h]
    rw [lane_lt ⟨(e : ℕ) - 128, by omega⟩]
    by_cases h6 : (e : ℕ) - 128 < 64
    · rw [if_pos h6]; exact (if_pos rfl).trans (congrArg f (by omega))
    · rw [if_neg h6]; exact (if_neg (by decide)).trans (congrArg f (by omega))

/-- The halves' columns. -/
theorem half_at (y : FVec Ideal S512x256 .f32) (r : Fin 512) (l : Fin 128) :
    half0 y (ix2 r l) = y (ix2 r ⟨0 + l, by omega⟩) ∧ half1 y (ix2 r l) = y (ix2 r ⟨128 + l, by omega⟩) := by
  refine ⟨?_, ?_⟩
  · unfold half0; pointwise; all_goals first | rfl | (refine congrArg (fun j => y (ix2 r j)) (Fin.ext ?_); dsimp only; omega)
  · unfold half1; pointwise; all_goals first | rfl | (refine congrArg (fun j => y (ix2 r j)) (Fin.ext ?_); dsimp only; omega)

/-- The products at an index. -/
theorem proj_at (u : FVec Ideal S512x1024 .bf16) (w : Vec Ideal S1024x512 .bf16) (r : Fin 512) (j : Fin 512) :
    proj u w (ix2 r j) = ∑ k : Fin 1024, u (ix2 r k) * w (ix2 k j) := by
  unfold proj; pointwise
/-- The products at an index. -/
theorem proj2_at (u : FVec Ideal S512x1024 .bf16) (w : Vec Ideal S1024x256 .bf16) (r : Fin 512) (j : Fin 256) :
    proj2 u w (ix2 r j) = ∑ k : Fin 1024, u (ix2 r k) * w (ix2 k j) := by
  unfold proj2; pointwise

/-- The modulated rows. -/
def rowsOf (sc sh : Vec Ideal S1x1x1024 .f32) (x : Vec Ideal S1x512x1024 .f32) : FVec Ideal S512x1024 .bf16 := k0_pay10 sc sh x
/-- The table of cosines. -/
def cosT (pos : Vec Ideal S1x1x512 .f32) (inv : Vec Ideal S32x1 .f32) : FVec Ideal S512x128 .f32 := k0_pay22 pos inv
/-- The table of sines, negated in the first half of a head. -/
def sinT (pos : Vec Ideal S1x1x512 .f32) (inv : Vec Ideal S32x1 .f32) : FVec Ideal S512x128 .f32 := k0_pay23 (k0_pay21 pos inv)

/-- A modulated row at an index. -/
theorem rowsOf_at (sc sh : Vec Ideal S1x1x1024 .f32) (x : Vec Ideal S1x512x1024 .f32) (r : Fin 512) (k : Fin 1024) :
    rowsOf sc sh x (ix2 r k) = modRow (fun d => x (ix3 0 r d)) (fun d => sc (ix3 0 0 d)) (fun d => sh (ix3 0 0 d)) k := by
  unfold rowsOf k0_pay10 k0_pay9 k0_pay8 k0_pay7
  pointwise
  rfl

/-- The cosine of an angle. -/
def cosAt (pos : EReal) (inv : Fin 32 → EReal) (l : ℕ) : EReal := if h : l < 32 then Ideal.cos (pos * inv ⟨l, h⟩) else 0
/-- The sine of an angle. -/
def sinAt (pos : EReal) (inv : Fin 32 → EReal) (l : ℕ) : EReal := if h : l < 32 then Ideal.sin (pos * inv ⟨l, h⟩) else 0

set_option maxHeartbeats 1000000 in
/-- The cosines at an index. -/
theorem cosT_at (pos : Vec Ideal S1x1x512 .f32) (inv : Vec Ideal S32x1 .f32) (r : Fin 512) (l : Fin 128) :
    cosT pos inv (ix2 r l) = cosAt (pos (ix3 0 0 r)) (fun f => inv (ix2 f 0)) ((l : ℕ) % 32) := by
  have hl := l.isLt
  unfold cosT k0_pay22 k0_pay20 cosAt
  pointwise
  rw [dif_pos (Nat.mod_lt _ (by omega))]
  have e : ∀ (n : ℕ) (h : n < 32), n = (l : ℕ) % 32 → Ideal.cos (pos (ix3 0 0 r) * inv (ix2 ⟨n, h⟩ 0)) = Ideal.cos (pos (ix3 0 0 r) * inv (ix2 ⟨(l : ℕ) % 32, Nat.mod_lt _ (by omega)⟩ 0)) := by
    rintro _ _ rfl; rfl
  split
  · exact e _ _ (by omega)
  · split
    · exact e _ _ (by omega)
    · split
      · exact e _ _ (by omega)
      · exact e _ _ (by omega)

set_option maxHeartbeats 1000000 in
/-- The sines at an index. -/
theorem sinT_at (pos : Vec Ideal S1x1x512 .f32) (inv : Vec Ideal S32x1 .f32) (r : Fin 512) (l : Fin 128) :
    sinT pos inv (ix2 r l) = if (l : ℕ) % 64 < 32 then -sinAt (pos (ix3 0 0 r)) (fun f => inv (ix2 f 0)) ((l : ℕ) % 32) else sinAt (pos (ix3 0 0 r)) (fun f => inv (ix2 f 0)) ((l : ℕ) % 32) := by
  have hl := l.isLt
  unfold sinT k0_pay23 k0_pay21 k0_pay20 sinAt
  pointwise
  rw [dif_pos (Nat.mod_lt _ (by omega))]
  have e : ∀ (n : ℕ) (h : n < 32), n = (l : ℕ) % 32 → Ideal.sin (pos (ix3 0 0 r) * inv (ix2 ⟨n, h⟩ 0)) = Ideal.sin (pos (ix3 0 0 r) * inv (ix2 ⟨(l : ℕ) % 32, Nat.mod_lt _ (by omega)⟩ 0)) := by
    rintro _ _ rfl; rfl
  split
  · exact (zero_sub _).trans ((congrArg (fun z : EReal => -z) (e _ _ (by omega))).trans (if_pos (by omega)).symm)
  · split
    · exact (e _ _ (by omega)).trans (if_neg (by omega)).symm
    · split
      · exact (zero_sub _).trans ((congrArg (fun z : EReal => -z) (e _ _ (by omega))).trans (if_pos (by omega)).symm)
      · exact (e _ _ (by omega)).trans (if_neg (by omega)).symm

end Cert.Kernel3Ideal.Inproj
-- ==== Proof.InprojPieces.lean ====
module

public import proofs.«01_k».proof.Proof.InprojTile
public import proofs.«01_k».proof.Proof.Gen.Kernel3Ideal.Frame
public import Idealize.ShloMosaic.Lib.Pipeline.ValueKit

/-! The stores of the input projection's results that keep the tokens' order: every store is the queries', the keys' or the
values' columns of one half of the rows of a block. -/
set_option maxRecDepth 16384
@[expose] public noncomputable section
open Idealize.ShloMosaic Idealize.ShloMosaic.TcCoe Idealize.SL.Sem
open Idealize.ShloMosaic.Pipeline (Dat)
namespace Cert.Kernel3Ideal.Inproj
open Cert.Kernel3Ideal Cert.Kernel3Ideal.Gen

/-- A half of the rows lies in the block. -/
theorem inb_rows (b : Fin 2) (K : ℕ) : ∀ a, (![0, 512 * (b : ℕ), 0] : Fin 3 → ℕ) a + (![1, 512, K] : Fin 3 → ℕ) a ≤ (![1, 1024, K] : Fin 3 → ℕ) a := by
  intro a
  match a with
  | 0 => show 0 + 1 ≤ 1; omega
  | 1 => show 512 * (b : ℕ) + 512 ≤ 1024; omega
  | 2 => show 0 + K ≤ K; omega
/-- A half of the rows and 512 columns lie in the block. -/
theorem inb_tile (b : Fin 2) {N : ℕ} (h : Fin N) : ∀ a, (![0, 512 * (b : ℕ), 512 * (h : ℕ)] : Fin 3 → ℕ) a + (![1, 512, 512] : Fin 3 → ℕ) a ≤ (![1, 1024, 512 * N] : Fin 3 → ℕ) a := by
  intro a
  match a with
  | 0 => show 0 + 1 ≤ 1; omega
  | 1 => show 512 * (b : ℕ) + 512 ≤ 1024; omega
  | 2 => show 512 * (h : ℕ) + 512 ≤ 512 * N; omega
/-- A half of the positions lies in the block's. -/
theorem inb_pos (b : Fin 2) : ∀ a, (![0, 0, 512 * (b : ℕ)] : Fin 3 → ℕ) a + (![1, 1, 512] : Fin 3 → ℕ) a ≤ (![1, 1, 1024] : Fin 3 → ℕ) a := by
  intro a
  match a with
  | 0 => show 0 + 1 ≤ 1; omega
  | 1 => show 0 + 1 ≤ 1; omega
  | 2 => show 512 * (b : ℕ) + 512 ≤ 1024; omega
/-- Columns of the weight. -/
theorem inb_cols (o n : ℕ) (h : o + n ≤ 5888) : ∀ a, (![0, o] : Fin 2 → ℕ) a + (![1024, n] : Fin 2 → ℕ) a ≤ (![1024, 5888] : Fin 2 → ℕ) a := by
  intro a
  match a with
  | 0 => show 0 + 1024 ≤ 1024; omega
  | 1 => show o + n ≤ 5888; omega
/-- The scale's and the shift's blocks, whole. -/
theorem inb_mod : ∀ a, (![0, 0, 0] : Fin 3 → ℕ) a + (![1, 1, 1024] : Fin 3 → ℕ) a ≤ (![1, 1, 1024] : Fin 3 → ℕ) a := by
  intro a
  match a with
  | 0 => show 0 + 1 ≤ 1; omega
  | 1 => show 0 + 1 ≤ 1; omega
  | 2 => show 0 + 1024 ≤ 1024; omega
/-- The inverse frequencies, whole. -/
theorem inb_inv : ∀ a, (![0, 0] : Fin 2 → ℕ) a + (![32, 1] : Fin 2 → ℕ) a ≤ (![32, 1] : Fin 2 → ℕ) a := by
  intro a
  match a with
  | 0 => show 0 + 32 ≤ 32; omega
  | 1 => show 0 + 1 ≤ 1; omega

/-- The modulated rows of half `b` of a block. -/
def rowsB (X0 : Vec Ideal S1x1024x1024 .f32) (X1 X2 : Vec Ideal S1x1x1024 .f32) (b : Fin 2) : FVec Ideal S512x1024 .bf16 :=
  rowsOf (View.ld X1 (Rect.unit ![0, 0, 0] ![1, 1, 1024] inb_mod)) (View.ld X2 (Rect.unit ![0, 0, 0] ![1, 1, 1024] inb_mod)) (View.ld X0 (Rect.unit ![0, 512 * (b : ℕ), 0] ![1, 512, 1024] (inb_rows b 1024)))
/-- 512 columns of the weight. -/
def cols (X5 : Vec Ideal S1024x5888 .bf16) (o : ℕ) (h : o + 512 ≤ 5888) : Vec Ideal S1024x512 .bf16 := View.ld X5 (Rect.unit ![0, o] ![1024, 512] (inb_cols o 512 h))
/-- 256 columns of the weight. -/
def cols2 (X5 : Vec Ideal S1024x5888 .bf16) (o : ℕ) (h : o + 256 ≤ 5888) : Vec Ideal S1024x256 .bf16 := View.ld X5 (Rect.unit ![0, o] ![1024, 256] (inb_cols o 256 h))
/-- The table of cosines of half `b`. -/
def cosB (X3 : Vec Ideal S1x1x1024 .f32) (X4 : Vec Ideal S32x1 .f32) (b : Fin 2) : FVec Ideal S512x128 .f32 :=
  cosT (View.ld X3 (Rect.unit ![0, 0, 512 * (b : ℕ)] ![1, 1, 512] (inb_pos b))) (View.ld X4 (Rect.unit ![0, 0] ![32, 1] inb_inv))
/-- The table of sines of half `b`. -/
def sinB (X3 : Vec Ideal S1x1x1024 .f32) (X4 : Vec Ideal S32x1 .f32) (b : Fin 2) : FVec Ideal S512x128 .f32 :=
  sinT (View.ld X3 (Rect.unit ![0, 0, 512 * (b : ℕ)] ![1, 1, 512] (inb_pos b))) (View.ld X4 (Rect.unit ![0, 0] ![32, 1] inb_inv))

/-- The attention queries' store of half `b`, columns `512 h` on. -/
def storeQ (X0 : Vec Ideal S1x1024x1024 .f32) (X1 X2 : Vec Ideal S1x1x1024 .f32) (X5 : Vec Ideal S1024x5888 .bf16) (b h : Fin 2) (cT sT : FVec Ideal S512x128 .f32) :
    View.Piece (Elt Ideal) S1x1024x1024 .bf16 :=
  ⟨Rect.unit ![0, 512 * (b : ℕ), 512 * (h : ℕ)] ![1, 512, 512] (inb_tile b h), lead (queries (proj (rowsB X0 X1 X2 b) (cols X5 (512 * (h : ℕ)) (by omega))) cT sT)⟩
/-- The attention keys' store of half `b`. -/
def storeK (X0 : Vec Ideal S1x1024x1024 .f32) (X1 X2 : Vec Ideal S1x1x1024 .f32) (X5 : Vec Ideal S1024x5888 .bf16) (b : Fin 2) (cT sT : FVec Ideal S512x128 .f32) :
    View.Piece (Elt Ideal) S1x1024x256 .bf16 :=
  ⟨Rect.unit ![0, 512 * (b : ℕ), 0] ![1, 512, 256] (inb_rows b 256), twice (roped (half0 (proj2 (rowsB X0 X1 X2 b) (cols2 X5 1024 (by omega)))) cT sT)⟩
/-- The attention values' store of half `b`. -/
def storeV (X0 : Vec Ideal S1x1024x1024 .f32) (X1 X2 : Vec Ideal S1x1x1024 .f32) (X5 : Vec Ideal S1024x5888 .bf16) (b : Fin 2) :
    View.Piece (Elt Ideal) S1x1024x256 .bf16 :=
  ⟨Rect.unit ![0, 512 * (b : ℕ), 0] ![1, 512, 256] (inb_rows b 256), twice (half1 (proj2 (rowsB X0 X1 X2 b) (cols2 X5 1024 (by omega))))⟩
/-- The second attention's queries of half `b`. -/
def storeBQ (X0 : Vec Ideal S1x1024x1024 .f32) (X1 X2 : Vec Ideal S1x1x1024 .f32) (X5 : Vec Ideal S1024x5888 .bf16) (b : Fin 2) (cT sT : FVec Ideal S512x128 .f32) :
    View.Piece (Elt Ideal) S1x1024x1536 .bf16 :=
  ⟨Rect.unit ![0, 512 * (b : ℕ), 512 * ((0 : Fin 3) : ℕ)] ![1, 512, 512] (inb_tile b (0 : Fin 3)), lead (queries (proj (rowsB X0 X1 X2 b) (cols X5 1280 (by omega))) cT sT)⟩
/-- Its keys. -/
def storeBK (X0 : Vec Ideal S1x1024x1024 .f32) (X1 X2 : Vec Ideal S1x1x1024 .f32) (X5 : Vec Ideal S1024x5888 .bf16) (b : Fin 2) (cT sT : FVec Ideal S512x128 .f32) :
    View.Piece (Elt Ideal) S1x1024x1536 .bf16 :=
  ⟨Rect.unit ![0, 512 * (b : ℕ), 512 * ((1 : Fin 3) : ℕ)] ![1, 512, 512] (inb_tile b (1 : Fin 3)), lead (keys (proj (rowsB X0 X1 X2 b) (cols X5 2816 (by omega))) cT sT)⟩
/-- Its values. -/
def storeBV (X0 : Vec Ideal S1x1024x1024 .f32) (X1 X2 : Vec Ideal S1x1x1024 .f32) (X5 : Vec Ideal S1024x5888 .bf16) (b : Fin 2) :
    View.Piece (Elt Ideal) S1x1024x1536 .bf16 :=
  ⟨Rect.unit ![0, 512 * (b : ℕ), 512 * ((2 : Fin 3) : ℕ)] ![1, 512, 512] (inb_tile b (2 : Fin 3)), lead (truncf .bf16 (proj (rowsB X0 X1 X2 b) (cols X5 4352 (by omega))) bitsLt_bf16_f32)⟩

/-- The table of cosines read back is the one stored. -/
theorem v424_eq (c : Dev nD) (arg4 : Memref sig .tc .vmem S1x1x1024 .f32) (harg4 : arg4.IsWhole) (arg5 : Memref sig .tc .vmem S32x1 .f32) (harg5 : arg5.IsWhole) (arg14 : Memref sig .tc .vmem S1024x128 .f32) (x3 : Vec Ideal S1x1x1024 .f32) (x4 : Vec Ideal S32x1 .f32) :
    kernelRun0_A.sl.v424 (F := Ideal) c arg4 harg4 arg5 harg5 arg14 x3 x4 = cosB (View.read (Elt Ideal) arg4.view (harg4.unread x3)) (View.read (Elt Ideal) arg5.view (harg5.unread x4)) 0 := by
  rw [kernelRun0_A.sl.v424.eq_1, kernelRun0_A.sl.HS1_1.eq_1]
  refine (View.readCov_cons_toLoadRect _ _ _ _).trans ?_
  sl_kernel_rfl

/-- The table of sinines read back is the one stored. -/
theorem v425_eq (c : Dev nD) (arg4 : Memref sig .tc .vmem S1x1x1024 .f32) (harg4 : arg4.IsWhole) (arg5 : Memref sig .tc .vmem S32x1 .f32) (harg5 : arg5.IsWhole) (arg15 : Memref sig .tc .vmem S1024x128 .f32) (x3 : Vec Ideal S1x1x1024 .f32) (x4 : Vec Ideal S32x1 .f32) :
    kernelRun0_A.sl.v425 (F := Ideal) c arg4 harg4 arg5 harg5 arg15 x3 x4 = sinB (View.read (Elt Ideal) arg4.view (harg4.unread x3)) (View.read (Elt Ideal) arg5.view (harg5.unread x4)) 0 := by
  rw [kernelRun0_A.sl.v425.eq_1, kernelRun0_A.sl.HS2_1.eq_1]
  refine (View.readCov_cons_toLoadRect _ _ _ _).trans ?_
  sl_kernel_rfl

/-- The table of cosines read back is the one stored. -/
theorem v1496_eq (c : Dev nD) (arg4 : Memref sig .tc .vmem S1x1x1024 .f32) (harg4 : arg4.IsWhole) (arg5 : Memref sig .tc .vmem S32x1 .f32) (harg5 : arg5.IsWhole) (arg14 : Memref sig .tc .vmem S1024x128 .f32) (x3 : Vec Ideal S1x1x1024 .f32) (x4 : Vec Ideal S32x1 .f32) :
    kernelRun0_A.sl.v1496 (F := Ideal) c arg4 harg4 arg5 harg5 arg14 x3 x4 = cosB (View.read (Elt Ideal) arg4.view (harg4.unread x3)) (View.read (Elt Ideal) arg5.view (harg5.unread x4)) 1 := by
  rw [kernelRun0_A.sl.v1496.eq_1, kernelRun0_A.sl.HS1_2.eq_1]
  refine (View.readCov_cons_toLoadRect _ _ _ _).trans ?_
  sl_kernel_rfl

/-- The table of sinines read back is the one stored. -/
theorem v1497_eq (c : Dev nD) (arg4 : Memref sig .tc .vmem S1x1x1024 .f32) (harg4 : arg4.IsWhole) (arg5 : Memref sig .tc .vmem S32x1 .f32) (harg5 : arg5.IsWhole) (arg15 : Memref sig .tc .vmem S1024x128 .f32) (x3 : Vec Ideal S1x1x1024 .f32) (x4 : Vec Ideal S32x1 .f32) :
    kernelRun0_A.sl.v1497 (F := Ideal) c arg4 harg4 arg5 harg5 arg15 x3 x4 = sinB (View.read (Elt Ideal) arg4.view (harg4.unread x3)) (View.read (Elt Ideal) arg5.view (harg5.unread x4)) 1 := by
  rw [kernelRun0_A.sl.v1497.eq_1, kernelRun0_A.sl.HS2_2.eq_1]
  refine (View.readCov_cons_toLoadRect _ _ _ _).trans ?_
  sl_kernel_rfl

/-- The attention queries' stores. -/
theorem storesQ (c : Dev nD) (i : grid0.Coords) (arg1 : Memref sig .tc .vmem S1x1024x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S32x1 .f32) (harg5 : arg5.IsWhole) (arg6 : Memref sig .tc .vmem S1024x5888 .bf16) (harg6 : arg6.IsWhole) (arg7 : Memref sig .tc .vmem S1x1024x1024 .bf16) (harg7 : arg7.IsWhole) (arg8 : Memref sig .tc .vmem S1x1024x256 .bf16) (harg8 : arg8.IsWhole) (arg9 : Memref sig .tc .vmem S1x1024x256 .bf16) (harg9 : arg9.IsWhole) (arg10 : Memref sig .tc .vmem S1x1024x1536 .bf16) (harg10 : arg10.IsWhole) (arg11 : Memref sig .tc .vmem S1x4x256x1536 .bf16) (harg11 : arg11.IsWhole) (arg12 : Memref sig .tc .vmem S1x16x64x1536 .bf16) (harg12 : arg12.IsWhole) (arg13 : Memref sig .tc .vmem S8x1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S1x1024x1024 .f32) (x1 : Vec Ideal S1x1x1024 .f32) (x2 : Vec Ideal S1x1x1024 .f32) (x3 : Vec Ideal S1x1x1024 .f32) (x4 : Vec Ideal S32x1 .f32) (x5 : Vec Ideal S1024x5888 .bf16) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).1 = [storeQ (View.read (Elt Ideal) arg1.view (harg1.unread x0)) (View.read (Elt Ideal) arg2.view (harg2.unread x1)) (View.read (Elt Ideal) arg3.view (harg3.unread x2)) (View.read (Elt Ideal) arg6.view (harg6.unread x5)) 1 1 (kernelRun0_A.sl.v1496 (F := Ideal) c arg4 harg4 arg5 harg5 arg14 x3 x4) (kernelRun0_A.sl.v1497 (F := Ideal) c arg4 harg4 arg5 harg5 arg15 x3 x4), storeQ (View.read (Elt Ideal) arg1.view (harg1.unread x0)) (View.read (Elt Ideal) arg2.view (harg2.unread x1)) (View.read (Elt Ideal) arg3.view (harg3.unread x2)) (View.read (Elt Ideal) arg6.view (harg6.unread x5)) 1 0 (kernelRun0_A.sl.v1496 (F := Ideal) c arg4 harg4 arg5 harg5 arg14 x3 x4) (kernelRun0_A.sl.v1497 (F := Ideal) c arg4 harg4 arg5 harg5 arg15 x3 x4), storeQ (View.read (Elt Ideal) arg1.view (harg1.unread x0)) (View.read (Elt Ideal) arg2.view (harg2.unread x1)) (View.read (Elt Ideal) arg3.view (harg3.unread x2)) (View.read (Elt Ideal) arg6.view (harg6.unread x5)) 0 1 (kernelRun0_A.sl.v424 (F := Ideal) c arg4 harg4 arg5 harg5 arg14 x3 x4) (kernelRun0_A.sl.v425 (F := Ideal) c arg4 harg4 arg5 harg5 arg15 x3 x4), storeQ (View.read (Elt Ideal) arg1.view (harg1.unread x0)) (View.read (Elt Ideal) arg2.view (harg2.unread x1)) (View.read (Elt Ideal) arg3.view (harg3.unread x2)) (View.read (Elt Ideal) arg6.view (harg6.unread x5)) 0 0 (kernelRun0_A.sl.v424 (F := Ideal) c arg4 harg4 arg5 harg5 arg14 x3 x4) (kernelRun0_A.sl.v425 (F := Ideal) c arg4 harg4 arg5 harg5 arg15 x3 x4)] := by
  sl_kernel_rfl

/-- The attention keys' stores. -/
theorem storesK (c : Dev nD) (i : grid0.Coords) (arg1 : Memref sig .tc .vmem S1x1024x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S32x1 .f32) (harg5 : arg5.IsWhole) (arg6 : Memref sig .tc .vmem S1024x5888 .bf16) (harg6 : arg6.IsWhole) (arg7 : Memref sig .tc .vmem S1x1024x1024 .bf16) (harg7 : arg7.IsWhole) (arg8 : Memref sig .tc .vmem S1x1024x256 .bf16) (harg8 : arg8.IsWhole) (arg9 : Memref sig .tc .vmem S1x1024x256 .bf16) (harg9 : arg9.IsWhole) (arg10 : Memref sig .tc .vmem S1x1024x1536 .bf16) (harg10 : arg10.IsWhole) (arg11 : Memref sig .tc .vmem S1x4x256x1536 .bf16) (harg11 : arg11.IsWhole) (arg12 : Memref sig .tc .vmem S1x16x64x1536 .bf16) (harg12 : arg12.IsWhole) (arg13 : Memref sig .tc .vmem S8x1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S1x1024x1024 .f32) (x1 : Vec Ideal S1x1x1024 .f32) (x2 : Vec Ideal S1x1x1024 .f32) (x3 : Vec Ideal S1x1x1024 .f32) (x4 : Vec Ideal S32x1 .f32) (x5 : Vec Ideal S1024x5888 .bf16) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.1 = [storeK (View.read (Elt Ideal) arg1.view (harg1.unread x0)) (View.read (Elt Ideal) arg2.view (harg2.unread x1)) (View.read (Elt Ideal) arg3.view (harg3.unread x2)) (View.read (Elt Ideal) arg6.view (harg6.unread x5)) 1 (kernelRun0_A.sl.v1496 (F := Ideal) c arg4 harg4 arg5 harg5 arg14 x3 x4) (kernelRun0_A.sl.v1497 (F := Ideal) c arg4 harg4 arg5 harg5 arg15 x3 x4), storeK (View.read (Elt Ideal) arg1.view (harg1.unread x0)) (View.read (Elt Ideal) arg2.view (harg2.unread x1)) (View.read (Elt Ideal) arg3.view (harg3.unread x2)) (View.read (Elt Ideal) arg6.view (harg6.unread x5)) 0 (kernelRun0_A.sl.v424 (F := Ideal) c arg4 harg4 arg5 harg5 arg14 x3 x4) (kernelRun0_A.sl.v425 (F := Ideal) c arg4 harg4 arg5 harg5 arg15 x3 x4)] := by
  sl_kernel_rfl

/-- The attention values' stores. -/
theorem storesV (c : Dev nD) (i : grid0.Coords) (arg1 : Memref sig .tc .vmem S1x1024x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S32x1 .f32) (harg5 : arg5.IsWhole) (arg6 : Memref sig .tc .vmem S1024x5888 .bf16) (harg6 : arg6.IsWhole) (arg7 : Memref sig .tc .vmem S1x1024x1024 .bf16) (harg7 : arg7.IsWhole) (arg8 : Memref sig .tc .vmem S1x1024x256 .bf16) (harg8 : arg8.IsWhole) (arg9 : Memref sig .tc .vmem S1x1024x256 .bf16) (harg9 : arg9.IsWhole) (arg10 : Memref sig .tc .vmem S1x1024x1536 .bf16) (harg10 : arg10.IsWhole) (arg11 : Memref sig .tc .vmem S1x4x256x1536 .bf16) (harg11 : arg11.IsWhole) (arg12 : Memref sig .tc .vmem S1x16x64x1536 .bf16) (harg12 : arg12.IsWhole) (arg13 : Memref sig .tc .vmem S8x1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S1x1024x1024 .f32) (x1 : Vec Ideal S1x1x1024 .f32) (x2 : Vec Ideal S1x1x1024 .f32) (x3 : Vec Ideal S1x1x1024 .f32) (x4 : Vec Ideal S32x1 .f32) (x5 : Vec Ideal S1024x5888 .bf16) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.1 = [storeV (View.read (Elt Ideal) arg1.view (harg1.unread x0)) (View.read (Elt Ideal) arg2.view (harg2.unread x1)) (View.read (Elt Ideal) arg3.view (harg3.unread x2)) (View.read (Elt Ideal) arg6.view (harg6.unread x5)) 1, storeV (View.read (Elt Ideal) arg1.view (harg1.unread x0)) (View.read (Elt Ideal) arg2.view (harg2.unread x1)) (View.read (Elt Ideal) arg3.view (harg3.unread x2)) (View.read (Elt Ideal) arg6.view (harg6.unread x5)) 0] := by
  sl_kernel_rfl

/-- The second attention's stores. -/
theorem storesB (c : Dev nD) (i : grid0.Coords) (arg1 : Memref sig .tc .vmem S1x1024x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S32x1 .f32) (harg5 : arg5.IsWhole) (arg6 : Memref sig .tc .vmem S1024x5888 .bf16) (harg6 : arg6.IsWhole) (arg7 : Memref sig .tc .vmem S1x1024x1024 .bf16) (harg7 : arg7.IsWhole) (arg8 : Memref sig .tc .vmem S1x1024x256 .bf16) (harg8 : arg8.IsWhole) (arg9 : Memref sig .tc .vmem S1x1024x256 .bf16) (harg9 : arg9.IsWhole) (arg10 : Memref sig .tc .vmem S1x1024x1536 .bf16) (harg10 : arg10.IsWhole) (arg11 : Memref sig .tc .vmem S1x4x256x1536 .bf16) (harg11 : arg11.IsWhole) (arg12 : Memref sig .tc .vmem S1x16x64x1536 .bf16) (harg12 : arg12.IsWhole) (arg13 : Memref sig .tc .vmem S8x1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S1x1024x1024 .f32) (x1 : Vec Ideal S1x1x1024 .f32) (x2 : Vec Ideal S1x1x1024 .f32) (x3 : Vec Ideal S1x1x1024 .f32) (x4 : Vec Ideal S32x1 .f32) (x5 : Vec Ideal S1024x5888 .bf16) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.1 = [storeBK (View.read (Elt Ideal) arg1.view (harg1.unread x0)) (View.read (Elt Ideal) arg2.view (harg2.unread x1)) (View.read (Elt Ideal) arg3.view (harg3.unread x2)) (View.read (Elt Ideal) arg6.view (harg6.unread x5)) 1 (kernelRun0_A.sl.v1496 (F := Ideal) c arg4 harg4 arg5 harg5 arg14 x3 x4) (kernelRun0_A.sl.v1497 (F := Ideal) c arg4 harg4 arg5 harg5 arg15 x3 x4), storeBQ (View.read (Elt Ideal) arg1.view (harg1.unread x0)) (View.read (Elt Ideal) arg2.view (harg2.unread x1)) (View.read (Elt Ideal) arg3.view (harg3.unread x2)) (View.read (Elt Ideal) arg6.view (harg6.unread x5)) 1 (kernelRun0_A.sl.v1496 (F := Ideal) c arg4 harg4 arg5 harg5 arg14 x3 x4) (kernelRun0_A.sl.v1497 (F := Ideal) c arg4 harg4 arg5 harg5 arg15 x3 x4), storeBV (View.read (Elt Ideal) arg1.view (harg1.unread x0)) (View.read (Elt Ideal) arg2.view (harg2.unread x1)) (View.read (Elt Ideal) arg3.view (harg3.unread x2)) (View.read (Elt Ideal) arg6.view (harg6.unread x5)) 1, storeBK (View.read (Elt Ideal) arg1.view (harg1.unread x0)) (View.read (Elt Ideal) arg2.view (harg2.unread x1)) (View.read (Elt Ideal) arg3.view (harg3.unread x2)) (View.read (Elt Ideal) arg6.view (harg6.unread x5)) 0 (kernelRun0_A.sl.v424 (F := Ideal) c arg4 harg4 arg5 harg5 arg14 x3 x4) (kernelRun0_A.sl.v425 (F := Ideal) c arg4 harg4 arg5 harg5 arg15 x3 x4), storeBQ (View.read (Elt Ideal) arg1.view (harg1.unread x0)) (View.read (Elt Ideal) arg2.view (harg2.unread x1)) (View.read (Elt Ideal) arg3.view (harg3.unread x2)) (View.read (Elt Ideal) arg6.view (harg6.unread x5)) 0 (kernelRun0_A.sl.v424 (F := Ideal) c arg4 harg4 arg5 harg5 arg14 x3 x4) (kernelRun0_A.sl.v425 (F := Ideal) c arg4 harg4 arg5 harg5 arg15 x3 x4), storeBV (View.read (Elt Ideal) arg1.view (harg1.unread x0)) (View.read (Elt Ideal) arg2.view (harg2.unread x1)) (View.read (Elt Ideal) arg3.view (harg3.unread x2)) (View.read (Elt Ideal) arg6.view (harg6.unread x5)) 0] := by
  sl_kernel_rfl

end Cert.Kernel3Ideal.Inproj
-- ==== Proof.InprojPoint.lean ====
module

public import proofs.«01_k».proof.Proof.InprojPieces
public import proofs.«01_k».proof.Proof.Cover

/-! What one grid point of the input projection leaves in its output blocks, at an index. -/
set_option maxRecDepth 16384
@[expose] public noncomputable section
open Idealize.ShloMosaic Idealize.ShloMosaic.TcCoe Idealize.SL.Sem
open Idealize.ShloMosaic.Pipeline (Dat)
namespace Cert.Kernel3Ideal.Inproj
open Cert.Kernel3Ideal Cert.Kernel3Ideal.Gen Cert.Rows

/-- An index of a store of half the rows, by its row and its column. -/
theorem exists_rows {K : ℕ} (x : (⟨3, ![1, 512, K]⟩ : Shape).Idx) : ∃ (r : Fin 512) (e : Fin K), x = ix3 0 r e := by
  refine ⟨x 1, x 2, (eq_ix3 x).trans ?_⟩
  have h0 : (x 0 : ℕ) < 1 := (x 0).isLt
  exact congrArg (fun a : Fin 1 => (ix3 a (x 1) (x 2) : (⟨3, ![1, 512, K]⟩ : Shape).Idx)) (Fin.ext (by show (x 0 : ℕ) = 0; omega))

section
variable (X0 : Vec Ideal S1x1024x1024 .f32) (X1 X2 X3 : Vec Ideal S1x1x1024 .f32) (X4 : Vec Ideal S32x1 .f32) (X5 : Vec Ideal S1024x5888 .bf16)

/-- A row's product with a column of the weight. -/
def projAt (r : Fin 1024) (e : ℕ) : EReal :=
  ∑ k : Fin 1024, modRow (fun d => X0 (ix3 0 r d)) (fun d => X1 (ix3 0 0 d)) (fun d => X2 (ix3 0 0 d)) k * (if h : e < 5888 then X5 (ix2 k ⟨e, h⟩) else 0)
/-- A row's cosines. -/
def csAt (r : Fin 1024) : ℕ → EReal := cosAt (X3 (ix3 0 0 r)) (fun f => X4 (ix2 f 0))
/-- A row's sines. -/
def snAt (r : Fin 1024) : ℕ → EReal := sinAt (X3 (ix3 0 0 r)) (fun f => X4 (ix2 f 0))

/-- Row `r` of half `b`. -/
def rowOf (b : Fin 2) (r : Fin 512) : Fin 1024 := ⟨512 * b + r, by omega⟩

/-- The modulated rows of a half at an index. -/
theorem rowsB_at (b : Fin 2) (r : Fin 512) (k : Fin 1024) :
    rowsB X0 X1 X2 b (ix2 r k) = modRow (fun d => X0 (ix3 0 (rowOf b r) d)) (fun d => X1 (ix3 0 0 d)) (fun d => X2 (ix3 0 0 d)) k := by
  have e0 : ∀ d : Fin 1024, View.ld X0 (Rect.unit ![0, 512 * (b : ℕ), 0] ![1, 512, 1024] (inb_rows b 1024)) (ix3 0 r d) = X0 (ix3 0 (rowOf b r) d) :=
    fun d => Cover.ld3 X0 (512 * (b : ℕ)) _ r d (by omega)
  have e1 : ∀ (X : Vec Ideal S1x1x1024 .f32) (d : Fin 1024), View.ld X (Rect.unit ![0, 0, 0] ![1, 1, 1024] inb_mod) (ix3 0 0 d) = X (ix3 0 0 d) := fun X d => by
    refine (Cover.ld3 X 0 _ 0 d (by show 0 + 0 < 1; omega)).trans rfl
  unfold rowsB
  exact (rowsOf_at _ _ _ r k).trans (congrFun (congr (congrArg₂ modRow (funext e0) (funext (e1 X1))) (funext (e1 X2))) k)

/-- The products of a half at an index. -/
theorem projB_at (b : Fin 2) (o : ℕ) (ho : o + 512 ≤ 5888) (r : Fin 512) (j : Fin 512) :
    proj (rowsB X0 X1 X2 b) (cols X5 o ho) (ix2 r j) = projAt X0 X1 X2 X5 (rowOf b r) (o + j) := by
  refine (proj_at _ _ r j).trans (Finset.sum_congr rfl fun k _ => ?_)
  rw [rowsB_at, dif_pos (show o + (j : ℕ) < 5888 by omega)]
  exact congrArg (fun z : EReal => _ * z) (Cover.ld2 X5 o _ k j (by omega))
/-- The products of a half at an index. -/
theorem proj2B_at (b : Fin 2) (o : ℕ) (ho : o + 256 ≤ 5888) (r : Fin 512) (j : Fin 256) :
    proj2 (rowsB X0 X1 X2 b) (cols2 X5 o ho) (ix2 r j) = projAt X0 X1 X2 X5 (rowOf b r) (o + j) := by
  refine (proj2_at _ _ r j).trans (Finset.sum_congr rfl fun k _ => ?_)
  rw [rowsB_at, dif_pos (show o + (j : ℕ) < 5888 by omega)]
  exact congrArg (fun z : EReal => _ * z) (Cover.ld2 X5 o _ k j (by omega))

/-- A position of a half. -/
theorem pos_at (b : Fin 2) (r : Fin 512) : View.ld X3 (Rect.unit ![0, 0, 512 * (b : ℕ)] ![1, 1, 512] (inb_pos b)) (ix3 0 0 r) = X3 (ix3 0 0 (rowOf b r)) := by
  refine congrArg X3 (funext fun a => Fin.ext ?_)
  match a with
  | 0 => rfl
  | 1 => rfl
  | 2 => show 512 * (b : ℕ) + 1 * (r : ℕ) = 512 * b + r; omega
/-- An inverse frequency. -/
theorem inv_at (f : Fin 32) : View.ld X4 (Rect.unit ![0, 0] ![32, 1] inb_inv) (ix2 f 0) = X4 (ix2 f 0) := by
  refine congrArg X4 (funext fun a => Fin.ext ?_)
  match a with
  | 0 => show 0 + 1 * (f : ℕ) = f; omega
  | 1 => rfl

/-- The cosines of a half at an index. -/
theorem cosB_at (b : Fin 2) (r : Fin 512) (l : Fin 128) : cosB X3 X4 b (ix2 r l) = csAt X3 X4 (rowOf b r) ((l : ℕ) % 32) := by
  unfold cosB
  exact (cosT_at _ _ r l).trans (congrArg₂ (fun p i => cosAt p i ((l : ℕ) % 32)) (pos_at X3 b r) (funext (inv_at X4)))
/-- The sines of a half at an index. -/
theorem sinB_at (b : Fin 2) (r : Fin 512) (l : Fin 128) :
    sinB X3 X4 b (ix2 r l) = if (l : ℕ) % 64 < 32 then -snAt X3 X4 (rowOf b r) ((l : ℕ) % 32) else snAt X3 X4 (rowOf b r) ((l : ℕ) % 32) := by
  unfold sinB
  have k := congrArg₂ (fun p i => sinAt p i ((l : ℕ) % 32)) (pos_at X3 b r) (funext (inv_at X4))
  exact (sinT_at _ _ r l).trans (congrArg (fun z : EReal => if (l : ℕ) % 64 < 32 then -z else z) k)

/-- The attention's queries at a row and a column. -/
def qSpec (r : Fin 1024) (e : ℕ) : EReal := rotated (projAt X0 X1 X2 X5 r) (csAt X3 X4 r) (snAt X3 X4 r) 0 e * qs
/-- The attention's keys, each key head's twice. -/
def kSpec (r : Fin 1024) (e : ℕ) : EReal := rotated (projAt X0 X1 X2 X5 r) (csAt X3 X4 r) (snAt X3 X4 r) 1024 (e / 128 * 64 + e % 64)
/-- The attention's values, each key head's twice. -/
def vSpec (r : Fin 1024) (e : ℕ) : EReal := projAt X0 X1 X2 X5 r (1024 + (128 + (e / 128 * 64 + e % 64)))
/-- The second attention's first group: queries, keys and values. -/
def bSpec (r : Fin 1024) (e : ℕ) : EReal :=
  if e < 512 then rotated (projAt X0 X1 X2 X5 r) (csAt X3 X4 r) (snAt X3 X4 r) 1280 e * qs
  else if e < 1024 then rotated (projAt X0 X1 X2 X5 r) (csAt X3 X4 r) (snAt X3 X4 r) 2816 (e - 512)
  else projAt X0 X1 X2 X5 r (4352 + (e - 1024))

/-- A block with a leading unit axis at an index. -/
theorem lead_at (y : FVec Ideal S512x512 .bf16) (r e : Fin 512) : lead y (ix3 0 r e) = y (ix2 r e) := by
  unfold lead; pointwise

/-- A store of the attention's queries. -/
theorem storeQ_good (b h : Fin 2) (x : (storeQ X0 X1 X2 X5 b h (cosB X3 X4 b) (sinB X3 X4 b)).1.shape.Idx) :
    (storeQ X0 X1 X2 X5 b h (cosB X3 X4 b) (sinB X3 X4 b)).2 x = qSpec X0 X1 X2 X3 X4 X5 ((storeQ X0 X1 X2 X5 b h (cosB X3 X4 b) (sinB X3 X4 b)).1.emb x 1) ((storeQ X0 X1 X2 X5 b h (cosB X3 X4 b) (sinB X3 X4 b)).1.emb x 2 : Fin 1024) := by
  obtain ⟨r, e, rfl⟩ : ∃ r e : Fin 512, x = ix3 0 r e := exists_rows x
  refine (lead_at _ r e).trans ((queries_at _ _ _ (projAt X0 X1 X2 X5 (rowOf b r)) (csAt X3 X4 (rowOf b r)) (snAt X3 X4 (rowOf b r)) (512 * (h : ℕ)) r (projB_at X0 X1 X2 X5 b _ _ r) (cosB_at X3 X4 b r) (sinB_at X3 X4 b r) e).trans ?_)
  have hr : (storeQ X0 X1 X2 X5 b h (cosB X3 X4 b) (sinB X3 X4 b)).1.emb (ix3 0 r e) 1 = rowOf b r := Fin.ext (by show 512 * (b : ℕ) + 1 * (r : ℕ) = 512 * b + r; omega)
  have he : (((storeQ X0 X1 X2 X5 b h (cosB X3 X4 b) (sinB X3 X4 b)).1.emb (ix3 0 r e) 2 : Fin 1024) : ℕ) = 512 * h + e := by show 512 * (h : ℕ) + 1 * (e : ℕ) = _; omega
  rw [hr, he]
  unfold qSpec rotated mate
  have := e.isLt
  rw [show (512 * (h : ℕ) + e) % 64 = (e : ℕ) % 64 by omega, show (512 * (h : ℕ) + e) % 32 = (e : ℕ) % 32 by omega, Nat.zero_add]
  by_cases k : (e : ℕ) % 64 < 32
  · simp only [if_pos k]; rw [show 512 * (h : ℕ) + ((e : ℕ) + 32) = 0 + (512 * (h : ℕ) + e + 32) by omega]
  · simp only [if_neg k]; rw [show 512 * (h : ℕ) + ((e : ℕ) - 32) = 0 + (512 * (h : ℕ) + e - 32) by omega]

/-- A store of the attention's keys. -/
theorem storeK_good (b : Fin 2) (x : (storeK X0 X1 X2 X5 b (cosB X3 X4 b) (sinB X3 X4 b)).1.shape.Idx) :
    (storeK X0 X1 X2 X5 b (cosB X3 X4 b) (sinB X3 X4 b)).2 x = kSpec X0 X1 X2 X3 X4 X5 ((storeK X0 X1 X2 X5 b (cosB X3 X4 b) (sinB X3 X4 b)).1.emb x 1) ((storeK X0 X1 X2 X5 b (cosB X3 X4 b) (sinB X3 X4 b)).1.emb x 2 : Fin 256) := by
  obtain ⟨r, e, rfl⟩ : ∃ (r : Fin 512) (e : Fin 256), x = ix3 0 r e := exists_rows x
  have hr : (storeK X0 X1 X2 X5 b (cosB X3 X4 b) (sinB X3 X4 b)).1.emb (ix3 0 r e) 1 = rowOf b r := Fin.ext (by show 512 * (b : ℕ) + 1 * (r : ℕ) = 512 * b + r; omega)
  have he : (((storeK X0 X1 X2 X5 b (cosB X3 X4 b) (sinB X3 X4 b)).1.emb (ix3 0 r e) 2 : Fin 256) : ℕ) = e := by show 0 + 1 * (e : ℕ) = _; omega
  rw [hr, he]
  refine twice_at _ (fun j => rotated (projAt X0 X1 X2 X5 (rowOf b r)) (csAt X3 X4 (rowOf b r)) (snAt X3 X4 (rowOf b r)) 1024 j) r (fun l => ?_) e
  refine (roped_at _ _ _ (projAt X0 X1 X2 X5 (rowOf b r)) (csAt X3 X4 (rowOf b r)) (snAt X3 X4 (rowOf b r)) 1024 0 r rfl (fun l => ?_) (cosB_at X3 X4 b r) (sinB_at X3 X4 b r) l).trans (congrArg _ (Nat.zero_add _))
  exact (half_at _ r l).1.trans (proj2B_at X0 X1 X2 X5 b _ _ r _)

/-- A store of the attention's values. -/
theorem storeV_good (b : Fin 2) (x : (storeV X0 X1 X2 X5 b).1.shape.Idx) :
    (storeV X0 X1 X2 X5 b).2 x = vSpec X0 X1 X2 X5 ((storeV X0 X1 X2 X5 b).1.emb x 1) ((storeV X0 X1 X2 X5 b).1.emb x 2 : Fin 256) := by
  obtain ⟨r, e, rfl⟩ : ∃ (r : Fin 512) (e : Fin 256), x = ix3 0 r e := exists_rows x
  have hr : (storeV X0 X1 X2 X5 b).1.emb (ix3 0 r e) 1 = rowOf b r := Fin.ext (by show 512 * (b : ℕ) + 1 * (r : ℕ) = 512 * b + r; omega)
  have he : (((storeV X0 X1 X2 X5 b).1.emb (ix3 0 r e) 2 : Fin 256) : ℕ) = e := by show 0 + 1 * (e : ℕ) = _; omega
  rw [hr, he]
  refine twice_at _ (fun j => projAt X0 X1 X2 X5 (rowOf b r) (1024 + (128 + j))) r (fun l => ?_) e
  exact (half_at _ r l).2.trans (proj2B_at X0 X1 X2 X5 b _ _ r _)

/-- A store of the second attention's queries. -/
theorem storeBQ_good (b : Fin 2) (x : (storeBQ X0 X1 X2 X5 b (cosB X3 X4 b) (sinB X3 X4 b)).1.shape.Idx) :
    (storeBQ X0 X1 X2 X5 b (cosB X3 X4 b) (sinB X3 X4 b)).2 x = bSpec X0 X1 X2 X3 X4 X5 ((storeBQ X0 X1 X2 X5 b (cosB X3 X4 b) (sinB X3 X4 b)).1.emb x 1) ((storeBQ X0 X1 X2 X5 b (cosB X3 X4 b) (sinB X3 X4 b)).1.emb x 2 : Fin 1536) := by
  obtain ⟨r, e, rfl⟩ : ∃ r e : Fin 512, x = ix3 0 r e := exists_rows x
  have hr : (storeBQ X0 X1 X2 X5 b (cosB X3 X4 b) (sinB X3 X4 b)).1.emb (ix3 0 r e) 1 = rowOf b r := Fin.ext (by show 512 * (b : ℕ) + 1 * (r : ℕ) = 512 * b + r; omega)
  have he : (((storeBQ X0 X1 X2 X5 b (cosB X3 X4 b) (sinB X3 X4 b)).1.emb (ix3 0 r e) 2 : Fin 1536) : ℕ) = 0 + e := by show 512 * 0 + 1 * (e : ℕ) = _; omega
  rw [hr, he]
  have hb : bSpec X0 X1 X2 X3 X4 X5 (rowOf b r) (0 + e) = rotated (projAt X0 X1 X2 X5 (rowOf b r)) (csAt X3 X4 (rowOf b r)) (snAt X3 X4 (rowOf b r)) 1280 e * qs := by
    unfold bSpec
    rw [if_pos (by omega), Nat.zero_add]
  rw [hb]
  exact (lead_at _ r e).trans (queries_at _ _ _ (projAt X0 X1 X2 X5 (rowOf b r)) (csAt X3 X4 (rowOf b r)) (snAt X3 X4 (rowOf b r)) 1280 r (projB_at X0 X1 X2 X5 b _ _ r) (cosB_at X3 X4 b r) (sinB_at X3 X4 b r) e)

/-- A store of its keys. -/
theorem storeBK_good (b : Fin 2) (x : (storeBK X0 X1 X2 X5 b (cosB X3 X4 b) (sinB X3 X4 b)).1.shape.Idx) :
    (storeBK X0 X1 X2 X5 b (cosB X3 X4 b) (sinB X3 X4 b)).2 x = bSpec X0 X1 X2 X3 X4 X5 ((storeBK X0 X1 X2 X5 b (cosB X3 X4 b) (sinB X3 X4 b)).1.emb x 1) ((storeBK X0 X1 X2 X5 b (cosB X3 X4 b) (sinB X3 X4 b)).1.emb x 2 : Fin 1536) := by
  obtain ⟨r, e, rfl⟩ : ∃ r e : Fin 512, x = ix3 0 r e := exists_rows x
  have hr : (storeBK X0 X1 X2 X5 b (cosB X3 X4 b) (sinB X3 X4 b)).1.emb (ix3 0 r e) 1 = rowOf b r := Fin.ext (by show 512 * (b : ℕ) + 1 * (r : ℕ) = 512 * b + r; omega)
  have he : (((storeBK X0 X1 X2 X5 b (cosB X3 X4 b) (sinB X3 X4 b)).1.emb (ix3 0 r e) 2 : Fin 1536) : ℕ) = 512 + e := by show 512 * 1 + 1 * (e : ℕ) = _; omega
  rw [hr, he]
  have hb : bSpec X0 X1 X2 X3 X4 X5 (rowOf b r) (512 + e) = rotated (projAt X0 X1 X2 X5 (rowOf b r)) (csAt X3 X4 (rowOf b r)) (snAt X3 X4 (rowOf b r)) 2816 e := by
    unfold bSpec
    rw [if_neg (by omega), if_pos (by omega), Nat.add_sub_cancel_left]
  rw [hb]
  exact (lead_at _ r e).trans (keys_at _ _ _ (projAt X0 X1 X2 X5 (rowOf b r)) (csAt X3 X4 (rowOf b r)) (snAt X3 X4 (rowOf b r)) 2816 r (projB_at X0 X1 X2 X5 b _ _ r) (cosB_at X3 X4 b r) (sinB_at X3 X4 b r) e)

/-- A store of its values. -/
theorem storeBV_good (b : Fin 2) (x : (storeBV X0 X1 X2 X5 b).1.shape.Idx) :
    (storeBV X0 X1 X2 X5 b).2 x = bSpec X0 X1 X2 X3 X4 X5 ((storeBV X0 X1 X2 X5 b).1.emb x 1) ((storeBV X0 X1 X2 X5 b).1.emb x 2 : Fin 1536) := by
  obtain ⟨r, e, rfl⟩ : ∃ r e : Fin 512, x = ix3 0 r e := exists_rows x
  have hr : (storeBV X0 X1 X2 X5 b).1.emb (ix3 0 r e) 1 = rowOf b r := Fin.ext (by show 512 * (b : ℕ) + 1 * (r : ℕ) = 512 * b + r; omega)
  have he : (((storeBV X0 X1 X2 X5 b).1.emb (ix3 0 r e) 2 : Fin 1536) : ℕ) = 1024 + e := by show 512 * 2 + 1 * (e : ℕ) = _; omega
  rw [hr, he]
  have hb : bSpec X0 X1 X2 X3 X4 X5 (rowOf b r) (1024 + e) = projAt X0 X1 X2 X5 (rowOf b r) (4352 + e) := by
    unfold bSpec
    rw [if_neg (by omega), if_neg (by omega), Nat.add_sub_cancel_left]
  rw [hb]
  exact (lead_at _ r e).trans (projB_at X0 X1 X2 X5 b _ _ r e)
end

variable (m : (ℓ : Loc nD τ sig) → Buf (Elt Ideal) ℓ)

set_option maxHeartbeats 1000000 in
/-- The attention's queries' block. -/
theorem point6 (c : Dev nD) (t : Fin cfg0.N) (y : S1x1024x1024.Idx) :
    (outsAt0 m c t).1 y = qSpec (iblk m c 0 t) (iblk m c 1 t) (iblk m c 2 t) (iblk m c 3 t) (iblk m c 4 t) (iblk m c 5 t) (y 1) (y 2 : Fin 1024) := by
  have e := storesQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
  rw [v424_eq, v425_eq, v1496_eq, v1497_eq, (hs0_0 t).read_unread, (hs0_1 t).read_unread, (hs0_2 t).read_unread, (hs0_3 t).read_unread, (hs0_4 t).read_unread, (hs0_5 t).read_unread] at e
  have h := cover0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) y
  have o : (outsAt0 m c t).1 = out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) := by dsimp only [outsAt0]
  rw [o]
  unfold out0_A_6
  refine (View.read_writes_apply_eq_canon VO0_6 VO0_6.junk y _ h).trans ?_
  rw [e] at h ⊢
  refine View.canon_apply_of_pieces (fun y : S1x1024x1024.Idx => qSpec (iblk m c 0 t) (iblk m c 1 t) (iblk m c 2 t) (iblk m c 3 t) (iblk m c 4 t) (iblk m c 5 t) (y 1) (y 2 : Fin 1024)) _ ?_ y h
  simp only [List.forall_mem_cons]
  exact ⟨storeQ_good (iblk m c 0 t) (iblk m c 1 t) (iblk m c 2 t) (iblk m c 3 t) (iblk m c 4 t) (iblk m c 5 t) 1 1, storeQ_good (iblk m c 0 t) (iblk m c 1 t) (iblk m c 2 t) (iblk m c 3 t) (iblk m c 4 t) (iblk m c 5 t) 1 0, storeQ_good (iblk m c 0 t) (iblk m c 1 t) (iblk m c 2 t) (iblk m c 3 t) (iblk m c 4 t) (iblk m c 5 t) 0 1, storeQ_good (iblk m c 0 t) (iblk m c 1 t) (iblk m c 2 t) (iblk m c 3 t) (iblk m c 4 t) (iblk m c 5 t) 0 0, fun p hp => absurd hp List.not_mem_nil⟩

set_option maxHeartbeats 1000000 in
/-- The attention's keys' block. -/
theorem point7 (c : Dev nD) (t : Fin cfg0.N) (y : S1x1024x256.Idx) :
    (outsAt0 m c t).2.1 y = kSpec (iblk m c 0 t) (iblk m c 1 t) (iblk m c 2 t) (iblk m c 3 t) (iblk m c 4 t) (iblk m c 5 t) (y 1) (y 2 : Fin 256) := by
  have e := storesK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
  rw [v424_eq, v425_eq, v1496_eq, v1497_eq, (hs0_0 t).read_unread, (hs0_1 t).read_unread, (hs0_2 t).read_unread, (hs0_3 t).read_unread, (hs0_4 t).read_unread, (hs0_5 t).read_unread] at e
  have h := cover0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) y
  have o : (outsAt0 m c t).2.1 = out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) := by dsimp only [outsAt0]
  rw [o]
  unfold out0_A_7
  refine (View.read_writes_apply_eq_canon VO0_7 VO0_7.junk y _ h).trans ?_
  rw [e] at h ⊢
  refine View.canon_apply_of_pieces (fun y : S1x1024x256.Idx => kSpec (iblk m c 0 t) (iblk m c 1 t) (iblk m c 2 t) (iblk m c 3 t) (iblk m c 4 t) (iblk m c 5 t) (y 1) (y 2 : Fin 256)) _ ?_ y h
  simp only [List.forall_mem_cons]
  exact ⟨storeK_good (iblk m c 0 t) (iblk m c 1 t) (iblk m c 2 t) (iblk m c 3 t) (iblk m c 4 t) (iblk m c 5 t) 1, storeK_good (iblk m c 0 t) (iblk m c 1 t) (iblk m c 2 t) (iblk m c 3 t) (iblk m c 4 t) (iblk m c 5 t) 0, fun p hp => absurd hp List.not_mem_nil⟩

set_option maxHeartbeats 1000000 in
/-- The attention's values' block. -/
theorem point8 (c : Dev nD) (t : Fin cfg0.N) (y : S1x1024x256.Idx) :
    (outsAt0 m c t).2.2.1 y = vSpec (iblk m c 0 t) (iblk m c 1 t) (iblk m c 2 t) (iblk m c 5 t) (y 1) (y 2 : Fin 256) := by
  have e := storesV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
  rw [(hs0_0 t).read_unread, (hs0_1 t).read_unread, (hs0_2 t).read_unread, (hs0_5 t).read_unread] at e
  have h := cover0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) y
  have o : (outsAt0 m c t).2.2.1 = out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) := by dsimp only [outsAt0]
  rw [o]
  unfold out0_A_8
  refine (View.read_writes_apply_eq_canon VO0_8 VO0_8.junk y _ h).trans ?_
  rw [e] at h ⊢
  refine View.canon_apply_of_pieces (fun y : S1x1024x256.Idx => vSpec (iblk m c 0 t) (iblk m c 1 t) (iblk m c 2 t) (iblk m c 5 t) (y 1) (y 2 : Fin 256)) _ ?_ y h
  simp only [List.forall_mem_cons]
  exact ⟨storeV_good (iblk m c 0 t) (iblk m c 1 t) (iblk m c 2 t) (iblk m c 5 t) 1, storeV_good (iblk m c 0 t) (iblk m c 1 t) (iblk m c 2 t) (iblk m c 5 t) 0, fun p hp => absurd hp List.not_mem_nil⟩

set_option maxHeartbeats 1000000 in
/-- The second attention's first group's block. -/
theorem point9 (c : Dev nD) (t : Fin cfg0.N) (y : S1x1024x1536.Idx) :
    (outsAt0 m c t).2.2.2.1 y = bSpec (iblk m c 0 t) (iblk m c 1 t) (iblk m c 2 t) (iblk m c 3 t) (iblk m c 4 t) (iblk m c 5 t) (y 1) (y 2 : Fin 1536) := by
  have e := storesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
  rw [v424_eq, v425_eq, v1496_eq, v1497_eq, (hs0_0 t).read_unread, (hs0_1 t).read_unread, (hs0_2 t).read_unread, (hs0_3 t).read_unread, (hs0_4 t).read_unread, (hs0_5 t).read_unread] at e
  have h := cover0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) y
  have o : (outsAt0 m c t).2.2.2.1 = out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) := by dsimp only [outsAt0]
  rw [o]
  unfold out0_A_9
  refine (View.read_writes_apply_eq_canon VO0_9 VO0_9.junk y _ h).trans ?_
  rw [e] at h ⊢
  refine View.canon_apply_of_pieces (fun y : S1x1024x1536.Idx => bSpec (iblk m c 0 t) (iblk m c 1 t) (iblk m c 2 t) (iblk m c 3 t) (iblk m c 4 t) (iblk m c 5 t) (y 1) (y 2 : Fin 1536)) _ ?_ y h
  simp only [List.forall_mem_cons]
  exact ⟨storeBK_good (iblk m c 0 t) (iblk m c 1 t) (iblk m c 2 t) (iblk m c 3 t) (iblk m c 4 t) (iblk m c 5 t) 1, storeBQ_good (iblk m c 0 t) (iblk m c 1 t) (iblk m c 2 t) (iblk m c 3 t) (iblk m c 4 t) (iblk m c 5 t) 1, storeBV_good (iblk m c 0 t) (iblk m c 1 t) (iblk m c 2 t) (iblk m c 3 t) (iblk m c 4 t) (iblk m c 5 t) 1, storeBK_good (iblk m c 0 t) (iblk m c 1 t) (iblk m c 2 t) (iblk m c 3 t) (iblk m c 4 t) (iblk m c 5 t) 0, storeBQ_good (iblk m c 0 t) (iblk m c 1 t) (iblk m c 2 t) (iblk m c 3 t) (iblk m c 4 t) (iblk m c 5 t) 0, storeBV_good (iblk m c 0 t) (iblk m c 1 t) (iblk m c 2 t) (iblk m c 3 t) (iblk m c 4 t) (iblk m c 5 t) 0, fun p hp => absurd hp List.not_mem_nil⟩

end Cert.Kernel3Ideal.Inproj
-- ==== Proof.InprojBlocks.lean ====
module

public import proofs.«01_k».proof.Proof.InprojPoint
public import proofs.«01_k».proof.Proof.Gen.Kernel3Ideal.Value
public import Idealize.ShloMosaic.Lib.Pipeline.ValueKit
public import Idealize.ShloMosaic.Lib.Pointwise
public import Idealize.ShloMosaic.Lib.Claim

/-! The input projection's input blocks at a grid point in terms of the program's arguments, and its result arrays after the run. -/
set_option maxRecDepth 16384
@[expose] public noncomputable section
open Idealize.ShloMosaic Idealize.ShloMosaic.TcCoe Idealize.SL.Sem
open Idealize.ShloMosaic.Pipeline (Dat)
namespace Cert.Kernel3Ideal.Inproj
open Cert.Kernel3Ideal Cert.Kernel3Ideal.Gen Cert.Rows

/-- A token's product with a column of the weight. -/
def tokProj (x : FVec Ideal S16x2048x1024 .f32) (mod : FVec Ideal S16x6144 .f32) (w : FVec Ideal S1024x7936 .f32) (b : Fin 16) (s : Fin 2048) (e : ℕ) : EReal :=
  ∑ k : Fin 1024, modRow (fun d => x (ix3 b s d)) (fun d => mod (ix2 b ⟨1024 + d, by omega⟩)) (fun d => mod (ix2 b ⟨d, by omega⟩)) k * (if h : e < 5888 then w (ix2 k ⟨e, by omega⟩) else 0)
/-- A token's cosines. -/
def tokCos (pos : S16x2048.Idx → BitVec 32) (inv : Fin 32 → EReal) (b : Fin 16) (s : Fin 2048) : ℕ → EReal := cosAt (sitofp (F := Ideal) .f32 pos (ix2 b s)) inv
/-- A token's sines. -/
def tokSin (pos : S16x2048.Idx → BitVec 32) (inv : Fin 32 → EReal) (b : Fin 16) (s : Fin 2048) : ℕ → EReal := sinAt (sitofp (F := Ideal) .f32 pos (ix2 b s)) inv
section
variable (x : FVec Ideal S16x2048x1024 .f32) (mod : FVec Ideal S16x6144 .f32) (pos : S16x2048.Idx → BitVec 32) (w : FVec Ideal S1024x7936 .f32) (inv : Fin 32 → EReal) (g : ℕ) (b : Fin 16) (s : Fin 2048) (e : ℕ)
/-- A token's queries: 16 heads, rotated and scaled. -/
def tokQ : EReal := rotated (tokProj x mod w b s) (tokCos pos inv b s) (tokSin pos inv b s) 0 e * qs
/-- A token's keys: two heads, rotated, each twice. -/
def tokK : EReal := rotated (tokProj x mod w b s) (tokCos pos inv b s) (tokSin pos inv b s) 1024 (e / 128 * 64 + e % 64)
/-- A token's values: two heads, each twice. -/
def tokV : EReal := tokProj x mod w b s (1024 + (128 + (e / 128 * 64 + e % 64)))
/-- A token's queries, keys and values of eight heads of the second attention. -/
def tokB : EReal :=
  if e < 512 then rotated (tokProj x mod w b s) (tokCos pos inv b s) (tokSin pos inv b s) (1280 + 512 * g) e * qs
  else if e < 1024 then rotated (tokProj x mod w b s) (tokCos pos inv b s) (tokSin pos inv b s) (2816 + 512 * g) (e - 512)
  else tokProj x mod w b s (4352 + 512 * g + (e - 1024))
end

variable (m : (ℓ : Loc nD τ sig) → Buf (Elt Ideal) ℓ)

/-- The block every window has at a grid point: token blocks follow the point, conditioning blocks its sequence, the rest is fixed. -/
theorem idx : ∀ t : Fin cfg0.N, t.val < 32 ∧ win0_0.index t = ![t.val / 2, t.val % 2, 0] ∧ win0_1.index t = ![t.val / 2, 0, 1] ∧ win0_2.index t = ![t.val / 2, 0, 0] ∧ win0_3.index t = ![t.val / 2, 0, t.val % 2] ∧ win0_4.index t = ![0, 0] ∧ win0_5.index t = ![0, 0] ∧ win0_6.index t = ![t.val / 2, t.val % 2, 0] ∧ win0_7.index t = ![t.val / 2, t.val % 2, 0] ∧ win0_8.index t = ![t.val / 2, t.val % 2, 0] ∧ win0_9.index t = ![t.val / 2, t.val % 2, 0] :=
  (by decide +kernel : ∀ t : Fin grid0.N, _)

/-- The sequence of a grid point. -/
abbrev seqOf (t : Fin cfg0.N) : Fin 16 := ⟨t.val / 2, by have := (idx t).1; omega⟩
/-- The token of row `r` of a grid point's block. -/
abbrev tokOf (t : Fin cfg0.N) (r : Fin 1024) : Fin 2048 := ⟨t.val % 2 * 1024 + r, by omega⟩

/-- The inverse frequencies: 10000 to the power of minus the pair's number over 32. -/
def invFreq : FVec Ideal S32 .f32 :=
  Host.powf (broadcastInDim S32 ![] bcast_S_S32 (constant S_ .f32 0x461C4000#32 : FVec Ideal S_ .f32))
    (Host.divf (Host.negf (sitofp .f32 (iotaInDim S32 32 0))) (broadcastInDim S32 ![] bcast_S_S32 (constant S_ .f32 0x42000000#32 : FVec Ideal S_ .f32)))

/-- The inverse frequencies the call reads. -/
theorem entry_inv (c : Dev nD) : V m c main_v11 = shapeCast S32x1 invFreq shapeCasts_S32_S32x1 := by
  sl_kernel_rfl

theorem blk0 (c : Dev nD) (t : Fin cfg0.N) (r : Fin 1024) (d : Fin 1024) : iblk m c 0 t (ix3 0 r d) = m ((c : Thread nD τ).loc main_arg0) (ix3 (seqOf t) (tokOf t r) d) := by
  blk_ext [iblk, V, idx t]
theorem blk1 (c : Dev nD) (t : Fin cfg0.N) (d : Fin 1024) : iblk m c 1 t (ix3 0 0 d) = m ((c : Thread nD τ).loc main_arg1) (ix2 (seqOf t) ⟨1024 + d, by omega⟩) := by
  blk_simp [iblk, idx t]; entry_read; pointwise; blk_ext [idx t]
theorem blk2 (c : Dev nD) (t : Fin cfg0.N) (d : Fin 1024) : iblk m c 2 t (ix3 0 0 d) = m ((c : Thread nD τ).loc main_arg1) (ix2 (seqOf t) ⟨d, by omega⟩) := by
  blk_simp [iblk, idx t]; entry_read; pointwise; blk_ext [idx t]
theorem blk3 (c : Dev nD) (t : Fin cfg0.N) (r : Fin 1024) : iblk m c 3 t (ix3 0 0 r) = sitofp (F := Ideal) .f32 (m ((c : Thread nD τ).loc main_arg2)) (ix2 (seqOf t) (tokOf t r)) := by
  blk_simp [iblk, idx t]; entry_read; pointwise
  refine congrArg₂ (fun a b => sitofp (F := Ideal) .f32 (m ((c : Thread nD τ).loc main_arg2)) (ix2 a b)) (Fin.ext ?_) (Fin.ext ?_)
  · blk_simp [idx t]; exact Nat.add_zero _
  · blk_simp [idx t]
theorem blk4 (c : Dev nD) (t : Fin cfg0.N) (f : Fin 32) : iblk m c 4 t (ix2 f 0) = invFreq (ix1 f) := by
  blk_simp [iblk, idx t]; rw [entry_inv]; generalize invFreq = g; pointwise; blk_ext [idx t]
theorem blk5 (c : Dev nD) (t : Fin cfg0.N) (d : Fin 1024) (e : Fin 5888) : iblk m c 5 t (ix2 d e) = m ((c : Thread nD τ).loc main_arg3) (ix2 d ⟨e, by omega⟩) := by
  blk_simp [iblk, idx t]; entry_read; pointwise; blk_ext [idx t]

/-- A grid point's products are its tokens'. -/
theorem projAt_eq (c : Dev nD) (t : Fin cfg0.N) (r : Fin 1024) :
    projAt (iblk m c 0 t) (iblk m c 1 t) (iblk m c 2 t) (iblk m c 5 t) r
      = tokProj (m ((c : Thread nD τ).loc main_arg0)) (m ((c : Thread nD τ).loc main_arg1)) (m ((c : Thread nD τ).loc main_arg3)) (seqOf t) (tokOf t r) := by
  funext e
  unfold projAt tokProj
  simp only [blk0, blk1, blk2, blk5]
/-- A grid point's cosines are its tokens'. -/
theorem csAt_eq (c : Dev nD) (t : Fin cfg0.N) (r : Fin 1024) :
    csAt (iblk m c 3 t) (iblk m c 4 t) r = tokCos (m ((c : Thread nD τ).loc main_arg2)) (fun f => invFreq (ix1 f)) (seqOf t) (tokOf t r) := by
  unfold csAt tokCos
  rw [blk3]
  exact congrArg (cosAt _) (funext (blk4 m c t))
/-- A grid point's sines are its tokens'. -/
theorem snAt_eq (c : Dev nD) (t : Fin cfg0.N) (r : Fin 1024) :
    snAt (iblk m c 3 t) (iblk m c 4 t) r = tokSin (m ((c : Thread nD τ).loc main_arg2)) (fun f => invFreq (ix1 f)) (seqOf t) (tokOf t r) := by
  unfold snAt tokSin
  rw [blk3]
  exact congrArg (sinAt _) (funext (blk4 m c t))

/-- The attention's queries of the program's arguments on core `c`. -/
def queriesOf (c : Dev nD) : Fin 16 → Fin 2048 → ℕ → EReal :=
  tokQ (m ((c : Thread nD τ).loc main_arg0)) (m ((c : Thread nD τ).loc main_arg1)) (m ((c : Thread nD τ).loc main_arg2)) (m ((c : Thread nD τ).loc main_arg3)) (fun f => invFreq (ix1 f))
/-- The attention's keys. -/
def keysOf (c : Dev nD) : Fin 16 → Fin 2048 → ℕ → EReal :=
  tokK (m ((c : Thread nD τ).loc main_arg0)) (m ((c : Thread nD τ).loc main_arg1)) (m ((c : Thread nD τ).loc main_arg2)) (m ((c : Thread nD τ).loc main_arg3)) (fun f => invFreq (ix1 f))
/-- The attention's values. -/
def valuesOf (c : Dev nD) : Fin 16 → Fin 2048 → ℕ → EReal :=
  tokV (m ((c : Thread nD τ).loc main_arg0)) (m ((c : Thread nD τ).loc main_arg1)) (m ((c : Thread nD τ).loc main_arg3))
/-- The second attention's first group. -/
def groupOf (c : Dev nD) : Fin 16 → Fin 2048 → ℕ → EReal :=
  tokB (m ((c : Thread nD τ).loc main_arg0)) (m ((c : Thread nD τ).loc main_arg1)) (m ((c : Thread nD τ).loc main_arg2)) (m ((c : Thread nD τ).loc main_arg3)) (fun f => invFreq (ix1 f)) 0

/-- A grid point's queries: its tokens'. -/
theorem qSpec_eq (c : Dev nD) (t : Fin cfg0.N) (r : Fin 1024) (e : ℕ) : qSpec (iblk m c 0 t) (iblk m c 1 t) (iblk m c 2 t) (iblk m c 3 t) (iblk m c 4 t) (iblk m c 5 t) r e = queriesOf m c (seqOf t) (tokOf t r) e := by
  unfold qSpec queriesOf tokQ
  rw [projAt_eq, csAt_eq, snAt_eq]

/-- A grid point's keys: its tokens'. -/
theorem kSpec_eq (c : Dev nD) (t : Fin cfg0.N) (r : Fin 1024) (e : ℕ) : kSpec (iblk m c 0 t) (iblk m c 1 t) (iblk m c 2 t) (iblk m c 3 t) (iblk m c 4 t) (iblk m c 5 t) r e = keysOf m c (seqOf t) (tokOf t r) e := by
  unfold kSpec keysOf tokK
  rw [projAt_eq, csAt_eq, snAt_eq]

/-- A grid point's values: its tokens'. -/
theorem vSpec_eq (c : Dev nD) (t : Fin cfg0.N) (r : Fin 1024) (e : ℕ) : vSpec (iblk m c 0 t) (iblk m c 1 t) (iblk m c 2 t) (iblk m c 5 t) r e = valuesOf m c (seqOf t) (tokOf t r) e := by
  unfold vSpec valuesOf tokV
  rw [projAt_eq]

/-- A grid point's second attention's first group: its tokens'. -/
theorem bSpec_eq (c : Dev nD) (t : Fin cfg0.N) (r : Fin 1024) (e : ℕ) : bSpec (iblk m c 0 t) (iblk m c 1 t) (iblk m c 2 t) (iblk m c 3 t) (iblk m c 4 t) (iblk m c 5 t) r e = groupOf m c (seqOf t) (tokOf t r) e := by
  unfold bSpec groupOf tokB
  rw [projAt_eq, csAt_eq, snAt_eq]

/-- After the run the queries' array holds every token's. -/
theorem final6 (c : Dev nD) : (dats m 0 c).arrAt 6 (cfgs 0).N = fun i => queriesOf m c (i 0) (i 1) (i 2 : Fin 1024) := by
  refine (dats m 0 c).arrAt_eq_of_covers 6 _ (by decide +kernel) fun t hf y => ?_
  blk_simp
  rw [after0_6]
  refine (point6 m c t y).trans ?_
  refine (qSpec_eq m c t (y 1) (y 2 : Fin 1024)).trans ?_
  have h0 : (y 0 : ℕ) < 1 := (y 0).isLt
  refine congr (congrArg₂ (queriesOf m c) (Fin.ext ?_) (Fin.ext ?_)) ?_
  all_goals blk_simp [idx t]

/-- After the run the keys' array holds every token's. -/
theorem final7 (c : Dev nD) : (dats m 0 c).arrAt 7 (cfgs 0).N = fun i => keysOf m c (i 0) (i 1) (i 2 : Fin 256) := by
  refine (dats m 0 c).arrAt_eq_of_covers 7 _ (by decide +kernel) fun t hf y => ?_
  blk_simp
  rw [after0_7]
  refine (point7 m c t y).trans ?_
  refine (kSpec_eq m c t (y 1) (y 2 : Fin 256)).trans ?_
  have h0 : (y 0 : ℕ) < 1 := (y 0).isLt
  refine congr (congrArg₂ (keysOf m c) (Fin.ext ?_) (Fin.ext ?_)) ?_
  all_goals blk_simp [idx t]

/-- After the run the values' array holds every token's. -/
theorem final8 (c : Dev nD) : (dats m 0 c).arrAt 8 (cfgs 0).N = fun i => valuesOf m c (i 0) (i 1) (i 2 : Fin 256) := by
  refine (dats m 0 c).arrAt_eq_of_covers 8 _ (by decide +kernel) fun t hf y => ?_
  blk_simp
  rw [after0_8]
  refine (point8 m c t y).trans ?_
  refine (vSpec_eq m c t (y 1) (y 2 : Fin 256)).trans ?_
  have h0 : (y 0 : ℕ) < 1 := (y 0).isLt
  refine congr (congrArg₂ (valuesOf m c) (Fin.ext ?_) (Fin.ext ?_)) ?_
  all_goals blk_simp [idx t]

/-- After the run the second attention's first group's array holds every token's. -/
theorem final9 (c : Dev nD) : (dats m 0 c).arrAt 9 (cfgs 0).N = fun i => groupOf m c (i 0) (i 1) (i 2 : Fin 1536) := by
  refine (dats m 0 c).arrAt_eq_of_covers 9 _ (by decide +kernel) fun t hf y => ?_
  blk_simp
  rw [after0_9]
  refine (point9 m c t y).trans ?_
  refine (bSpec_eq m c t (y 1) (y 2 : Fin 1536)).trans ?_
  have h0 : (y 0 : ℕ) < 1 := (y 0).isLt
  refine congr (congrArg₂ (groupOf m c) (Fin.ext ?_) (Fin.ext ?_)) ?_
  all_goals blk_simp [idx t]

end Cert.Kernel3Ideal.Inproj
-- ==== Proof.InprojReference.lean ====
module

public import proofs.«01_k».proof.Proof.InprojBlocks
public import proofs.«01_k».proof.Proof.AttnMath
public import proofs.«01_k».proof.Proof.Gen.Reference3Ideal.Read
public import Idealize.ShloMosaic.Lib.Pipeline.ValueKit
public import Idealize.ShloMosaic.Lib.Pointwise

/-! The reference for the input projection, read at an index: at every token the same columns, rotated by the same angles. -/
set_option maxRecDepth 16384
@[expose] public noncomputable section
open Idealize.ShloMosaic Idealize.ShloMosaic.TcCoe Idealize.SL.Sem
namespace Cert.Reference3Ideal.Inproj
open Cert.Reference3Ideal Cert.Reference3Ideal.Gen Cert.Reference3Ideal.Read Cert.Rows Cert.Kernel3Ideal.Inproj
variable (x0 : FVec Ideal S16x2048x1024 .f32) (x1 : FVec Ideal S16x6144 .f32) (x2 : S16x2048.Idx → BitVec 32) (x3 : FVec Ideal S1024x7936 .f32)

/-- The modulated row. -/
theorem u_at (b : Fin 16) (s : Fin 2048) (k : Fin 1024) : val_main_v12 (F := Ideal) x0 x1 (ix3 b s k) = modRow (fun d => x0 (ix3 b s d)) (fun d => x1 (ix2 b ⟨1024 + d, by omega⟩)) (fun d => x1 (ix2 b ⟨d, by omega⟩)) k := by
  pointwise [val_main_v0, val_main_v1, val_main_v2, val_main_cst, val_main_v7, val_main_v8, val_main_v9, val_main_v10, val_main_v11, val_main_v12]
  simp only [modRow]
  blk_ext

/-- A column of the products. -/
theorem p_at (b : Fin 16) (s : Fin 2048) (e : Fin 5888) : val_main_v14 (F := Ideal) x0 x1 x3 (ix3 b s e) = tokProj x0 x1 x3 b s e := by
  pointwise [val_main_v14, val_main_v13]
  unfold tokProj
  refine Finset.sum_congr rfl fun k _ => ?_
  rw [u_at, dif_pos e.isLt]

/-- The inverse frequencies. -/
theorem inv_eq : val_main_v27 (F := Ideal) = invFreq := rfl

/-- The cosines. -/
theorem cos_at (b : Fin 16) (s : Fin 2048) (f : Fin 32) : val_main_v34 (F := Ideal) x2 (ix3 b s f) = tokCos x2 (fun f => invFreq (ix1 f)) b s f := by
  pointwise [val_main_v28, val_main_v29, val_main_v30, val_main_v31, val_main_v32, val_main_v33, val_main_v34]
  rw [inv_eq]
  unfold tokCos cosAt
  rw [dif_pos f.isLt]
  rfl
/-- The sines. -/
theorem sin_at (b : Fin 16) (s : Fin 2048) (f : Fin 32) : val_main_v36 (F := Ideal) x2 (ix3 b s f) = tokSin x2 (fun f => invFreq (ix1 f)) b s f := by
  pointwise [val_main_v28, val_main_v29, val_main_v30, val_main_v31, val_main_v32, val_main_v33, val_main_v36]
  rw [inv_eq]
  unfold tokSin sinAt
  rw [dif_pos f.isLt]
  rfl

/-- The later tables are the first again. -/
theorem cos2 : val_main_v69 (F := Ideal) x2 = val_main_v34 (F := Ideal) x2 := rfl
/-- Likewise. -/
theorem sin2 : val_main_v71 (F := Ideal) x2 = val_main_v36 (F := Ideal) x2 := rfl
/-- Likewise. -/
theorem cos3 : val_main_v100 (F := Ideal) x2 = val_main_v34 (F := Ideal) x2 := rfl
/-- Likewise. -/
theorem sin3 : val_main_v102 (F := Ideal) x2 = val_main_v36 (F := Ideal) x2 := rfl
/-- Likewise. -/
theorem cos4 : val_main_v135 (F := Ideal) x2 = val_main_v34 (F := Ideal) x2 := rfl
/-- Likewise. -/
theorem sin4 : val_main_v137 (F := Ideal) x2 = val_main_v36 (F := Ideal) x2 := rfl

/-- The reference's scale, an eighth over the logarithm of two, is one over the logarithm of 256. -/
theorem scale_at (x : EReal) : Ideal.div (x * Ideal.ofBits .f32 0x3E000000#32) (Ideal.log (Ideal.ofBits .f32 0x40000000#32)) = x * qs := by
  have h8 : Ideal.ofBits .f32 0x3E000000#32 = ((0.125 : ℝ) : EReal) := by
    simp [Ideal.ofBits, Ideal.ieee]
    norm_num
    rw [← EReal.coe_mul]
    norm_num
  have h2 : Ideal.ofBits .f32 0x40000000#32 = ((2 : ℝ) : EReal) := by
    simp [Ideal.ofBits, Ideal.ieee]
    norm_num
    rw [← EReal.coe_mul]
    norm_num
  have hl : Ideal.log ((2 : ℝ) : EReal) = ((Real.log 2 : ℝ) : EReal) := if_neg (by norm_num)
  have hn : ((Real.log 2 : ℝ) : EReal) ≠ 0 := by
    intro h
    exact (Real.log_pos (by norm_num : (1 : ℝ) < 2)).ne' (by exact_mod_cast h)
  rw [h8, h2, hl, Ideal.div, if_neg hn, ← EReal.coe_inv, mul_assoc, ← EReal.coe_mul, qs, Cert.Attn.scale_eq, Cert.Attn.lg, mul_comm (0.125 : ℝ)]

/-- A head's first half, rotated. -/
theorem rot_lo (p cs sn : ℕ → EReal) {o h d i j : ℕ} (hd : d < 32) (hi : i = o + (64 * h + d)) (hj : j = o + (64 * h + d + 32)) :
    p i * cs d - p j * sn d = rotated p cs sn o (64 * h + d) := by
  have h1 : (64 * h + d) % 64 < 32 := by omega
  have h2 : (64 * h + d) % 32 = d := by omega
  rw [rotated, mate, if_pos h1, if_pos h1, h2, hi, hj, mul_neg, sub_eq_add_neg]
/-- A head's second half, rotated. -/
theorem rot_hi (p cs sn : ℕ → EReal) {o h d i j k : ℕ} (hd : ¬ d < 32) (hd' : d < 64) (hk : k = d - 32) (hi : i = o + (64 * h + d)) (hj : j = o + (64 * h + d - 32)) :
    p i * cs k + p j * sn k = rotated p cs sn o (64 * h + d) := by
  have h1 : ¬ (64 * h + d) % 64 < 32 := by omega
  have h2 : (64 * h + d) % 32 = k := by omega
  rw [rotated, mate, if_neg h1, if_neg h1, h2, hi, hj]

/-- The queries' heads, rotated. -/
theorem rotQ_at (b : Fin 16) (s : Fin 2048) (h : Fin 16) (d : Fin 64) : val_main_v50 (F := Ideal) x0 x1 x2 x3 (ix4 b s h d)
    = rotated (tokProj x0 x1 x3 b s) (tokCos x2 (fun f => invFreq (ix1 f)) b s) (tokSin x2 (fun f => invFreq (ix1 f)) b s) 0 (64 * h + d) := by
  pointwise [val_main_v15, val_main_v21, val_main_v35, val_main_v37, val_main_v38, val_main_v39, val_main_v40, val_main_v41, val_main_v42, val_main_v43, val_main_v44, val_main_v45, val_main_v46, val_main_v47, val_main_v48, val_main_v49, val_main_v50]
  split
  · rename_i hd
    simp only [p_at, cos_at, sin_at]
    exact rot_lo _ _ _ hd (by omega) (by omega)
  · rename_i hd
    simp only [p_at, cos_at, sin_at]
    exact rot_hi _ _ _ hd d.isLt rfl (by omega) (by omega)

/-- The keys' heads, rotated. -/
theorem rotK_at (b : Fin 16) (s : Fin 2048) (h : Fin 2) (d : Fin 64) : val_main_v85 (F := Ideal) x0 x1 x2 x3 (ix4 b s h d)
    = rotated (tokProj x0 x1 x3 b s) (tokCos x2 (fun f => invFreq (ix1 f)) b s) (tokSin x2 (fun f => invFreq (ix1 f)) b s) 1024 (64 * h + d) := by
  pointwise [val_main_v16, val_main_v56, val_main_v70, val_main_v72, val_main_v73, val_main_v74, val_main_v75, val_main_v76, val_main_v77, val_main_v78, val_main_v79, val_main_v80, val_main_v81, val_main_v82, val_main_v83, val_main_v84, val_main_v85]
  split
  · rename_i hd
    simp only [cos2, sin2, p_at, cos_at, sin_at]
    exact rot_lo _ _ _ hd (by omega) (by omega)
  · rename_i hd
    simp only [cos2, sin2, p_at, cos_at, sin_at]
    exact rot_hi _ _ _ hd d.isLt rfl (by omega) (by omega)

/-- The second queries' heads, rotated. -/
theorem rotQ2_at (b : Fin 16) (s : Fin 2048) (h : Fin 24) (d : Fin 64) : val_main_v116 (F := Ideal) x0 x1 x2 x3 (ix4 b s h d)
    = rotated (tokProj x0 x1 x3 b s) (tokCos x2 (fun f => invFreq (ix1 f)) b s) (tokSin x2 (fun f => invFreq (ix1 f)) b s) 1280 (64 * h + d) := by
  pointwise [val_main_v18, val_main_v87, val_main_v101, val_main_v103, val_main_v104, val_main_v105, val_main_v106, val_main_v107, val_main_v108, val_main_v109, val_main_v110, val_main_v111, val_main_v112, val_main_v113, val_main_v114, val_main_v115, val_main_v116]
  split
  · rename_i hd
    simp only [cos3, sin3, p_at, cos_at, sin_at]
    exact rot_lo _ _ _ hd (by omega) (by omega)
  · rename_i hd
    simp only [cos3, sin3, p_at, cos_at, sin_at]
    exact rot_hi _ _ _ hd d.isLt rfl (by omega) (by omega)

/-- The second keys' heads, rotated. -/
theorem rotK2_at (b : Fin 16) (s : Fin 2048) (h : Fin 24) (d : Fin 64) : val_main_v151 (F := Ideal) x0 x1 x2 x3 (ix4 b s h d)
    = rotated (tokProj x0 x1 x3 b s) (tokCos x2 (fun f => invFreq (ix1 f)) b s) (tokSin x2 (fun f => invFreq (ix1 f)) b s) 2816 (64 * h + d) := by
  pointwise [val_main_v19, val_main_v122, val_main_v136, val_main_v138, val_main_v139, val_main_v140, val_main_v141, val_main_v142, val_main_v143, val_main_v144, val_main_v145, val_main_v146, val_main_v147, val_main_v148, val_main_v149, val_main_v150, val_main_v151]
  split
  · rename_i hd
    simp only [cos4, sin4, p_at, cos_at, sin_at]
    exact rot_lo _ _ _ hd (by omega) (by omega)
  · rename_i hd
    simp only [cos4, sin4, p_at, cos_at, sin_at]
    exact rot_hi _ _ _ hd d.isLt rfl (by omega) (by omega)

/-- The queries at an index. -/
theorem q_at (b : Fin 16) (s : Fin 2048) (e : Fin 1024) : val_main_v161 (F := Ideal) x0 x1 x2 x3 (ix3 b s e) = tokQ x0 x1 x2 x3 (fun f => invFreq (ix1 f)) b s e := by
  pointwise [val_main_cst_2, val_main_v51, val_main_v52, val_main_cst_3, val_main_v53, val_main_v54, val_main_v55, val_main_v160, val_main_v161]
  refine (scale_at _).trans ?_
  rw [rotQ_at, tokQ]
  refine congrArg (fun j => rotated _ _ _ _ j * qs) ?_
  show 64 * ((e : ℕ) / 64) + (e : ℕ) % 64 = e
  omega
/-- The keys at an index. -/
theorem k_at (b : Fin 16) (s : Fin 2048) (e : Fin 256) : val_main_v165 (F := Ideal) x0 x1 x2 x3 (ix3 b s e) = tokK x0 x1 x2 x3 (fun f => invFreq (ix1 f)) b s e := by
  pointwise [val_main_v162, val_main_v163, val_main_v164, val_main_v165]
  rw [rotK_at, tokK]
  refine congrArg (fun j => rotated _ _ _ _ j) ?_
  show 64 * ((e : ℕ) / 128) + (e : ℕ) % 64 = (e : ℕ) / 128 * 64 + (e : ℕ) % 64
  omega
/-- The values at an index. -/
theorem v_at (b : Fin 16) (s : Fin 2048) (e : Fin 256) : val_main_v169 (F := Ideal) x0 x1 x3 (ix3 b s e) = tokV x0 x1 x3 b s e := by
  pointwise [val_main_v86, val_main_v17, val_main_v166, val_main_v167, val_main_v168, val_main_v169]
  rw [p_at, tokV]
  refine congrArg (fun j => tokProj x0 x1 x3 b s j) ?_
  show 1152 + ((e : ℕ) / 128 * 64 + (e : ℕ) % 64) = 1024 + (128 + ((e : ℕ) / 128 * 64 + (e : ℕ) % 64))
  omega
/-- The second attention's first eight heads at an index. -/
theorem b_at (b : Fin 16) (s : Fin 2048) (e : Fin 1536) : val_main_v170 (F := Ideal) x0 x1 x2 x3 (ix3 b s e) = tokB x0 x1 x2 x3 (fun f => invFreq (ix1 f)) 0 b s e := by
  pointwise [val_main_cst_8, val_main_v117, val_main_v118, val_main_cst_9, val_main_v119, val_main_v120, val_main_v121, val_main_v152, val_main_v20, val_main_v153, val_main_v154, val_main_v155, val_main_v156, val_main_v157, val_main_v158, val_main_v159, val_main_v170]
  unfold tokB
  split
  · rename_i h1
    refine (scale_at _).trans ?_
    rw [rotQ2_at]
    refine congrArg (fun j => rotated _ _ _ 1280 j * qs) ?_
    show 64 * ((e : ℕ) / 64) + (e : ℕ) % 64 = e
    omega
  · rename_i h1
    split
    · rename_i h2
      refine Eq.trans ?_ (if_pos (by omega)).symm
      refine (rotK2_at x0 x1 x2 x3 b s _ _).trans ?_
      refine congrArg (fun j => rotated _ _ _ 2816 j) ?_
      show 64 * (((e : ℕ) - 512) / 64) + ((e : ℕ) - 512) % 64 = (e : ℕ) - 512
      omega
    · rename_i h2
      refine Eq.trans ?_ (if_neg (by omega)).symm
      refine (p_at x0 x1 x3 b s _).trans ?_
      refine congrArg (fun j => tokProj x0 x1 x3 b s j) ?_
      show 4352 + (((e : ℕ) - 512 - 512) / 64 * 64 + ((e : ℕ) - 512 - 512) % 64) = 4352 + 512 * 0 + ((e : ℕ) - 1024)
      omega
end Cert.Reference3Ideal.Inproj
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.AttnBlocks
public import proofs.«01_k».proof.Proof.AttnReference
public import proofs.«01_k».proof.Proof.Gen.Kernel2.Frame
public import proofs.«01_k».proof.Proof.PostFinal
public import proofs.«01_k».proof.Proof.PostReference
public import proofs.«01_k».proof.Proof.Gen.Kernel3.Frame
public import proofs.«01_k».proof.Proof.Gen.Kernel3Ideal.Frame
public import proofs.«01_k».proof.Proof.Gen.Kernel3Ideal.Value
public import proofs.«01_k».proof.Proof.InprojBlocks
public import proofs.«01_k».proof.Proof.InprojReference
public import proofs.«01_k».proof.Proof.Gen.Reference3Ideal.Read
public import proofs.«01_k».proof.Proof.Gen.Reference3Ideal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The attention call's program terminates, leaves its arguments unchanged and every semaphore counter at zero. -/
theorem frame_Kernel : Cert.quiescent_Kernel (hKernel := Cert.Kernel.Gen.facts) := fun m ρ _ => Cert.Kernel.Gen.frame m ρ

/-- So does its ideal program. -/
theorem frame_KernelIdeal : Cert.quiescent_KernelIdeal (hKernelIdeal := Cert.KernelIdeal.Gen.facts) := fun m ρ _ => Cert.KernelIdeal.Gen.frame m ρ

/-- So does the attention's reference. -/
theorem frame_ReferenceIdeal : Cert.quiescent_ReferenceIdeal (hReferenceIdeal := Cert.ReferenceIdeal.Gen.facts) := by
  intro m g _
  exact θ_run_mono (Cert.ReferenceIdeal.Value.run m g) fun r h => ⟨fun c => (h c).2.2.2.2.2.2.2, sem_eq_zero_of_no_sems (by decide) r.2⟩

/-- The closing call's program terminates, leaves its arguments unchanged and every semaphore counter at zero. -/
theorem frame_Kernel2 : Cert.quiescent_Kernel2 (hKernel2 := Cert.Kernel2.Gen.facts) := fun m ρ _ => Cert.Kernel2.Gen.frame m ρ

/-- So does its ideal program. -/
theorem frame_Kernel2Ideal : Cert.quiescent_Kernel2Ideal (hKernel2Ideal := Cert.Kernel2Ideal.Gen.facts) := fun m ρ _ => Cert.Kernel2Ideal.Gen.frame m ρ

set_option maxHeartbeats 1600000 in
/-- So does the closing call's reference. -/
theorem frame_Reference2Ideal : Cert.quiescent_Reference2Ideal (hReference2Ideal := Cert.Reference2Ideal.Gen.facts) := by
  intro m g _
  exact θ_run_mono (Cert.Reference2Ideal.Value.run m g) fun r h => ⟨fun c => (h c).2, sem_eq_zero_of_no_sems (by decide) r.2⟩

/-- The attention call's named constants: each literal is the rounded value of what its name stands for. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "qscale" .f32 0x3E38AA3B#32 (((Real.log 256)⁻¹ : ℝ) : EReal) rfl,
   IdealRules.named_const.statement Cert.KernelIdeal.κ "mask" .f32 0xF149F2CA#32 ⊥ rfl⟩

set_option maxHeartbeats 3200000 in
/-- Over the extended reals the attention call and its reference compute the same arrays: the attention's results and the cast weights. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, _, _, _, _, _, _, Cert.KernelIdeal.Value.run_blocks m g, θ_run_mono (Cert.ReferenceIdeal.Value.run m' g') fun r h c => ?_⟩
  obtain ⟨h0, h1, h2, h3, h4, h5, h6, h7, h8, h9⟩ := hagree c
  obtain ⟨e0, e1, e2, e3, e4, e5, e6, he⟩ := h c
  refine ⟨e0.trans ?_, e1.trans ?_, e2.trans ?_, e3.trans ?_, e4.trans ?_, e5.trans ?_, e6.trans ?_, he⟩
  · refine (Cert.ReferenceIdeal.Read.val_main_v70_eq m' c).trans ?_
    change Cert.ReferenceIdeal.Read.val_main_v70 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
    rw [h0, h1, h2, h3]
    refine Eq.trans ?_ (Cert.KernelIdeal.Attn.final10 m c).symm
    funext i
    obtain ⟨b, s, k, rfl⟩ : ∃ b s k, i = ix3 b s k := ⟨i 0, i 1, i 2, eq_ix3 i⟩
    exact Cert.ReferenceIdeal.Attn.window_at _ _ _ _ b s k
  · refine Eq.trans ?_ (Cert.KernelIdeal.Attn.final11 m c).symm
    rw [h4]
    funext i
    exact Cert.ReferenceIdeal.Attn.slice_at _ i
  · refine Eq.trans ?_ (Cert.KernelIdeal.Attn.final12 m c).symm
    rw [h5]
    rfl
  · refine Eq.trans ?_ (Cert.KernelIdeal.Attn.final13 m c).symm
    rw [h6]
    rfl
  · refine Eq.trans ?_ (Cert.KernelIdeal.Attn.final14 m c).symm
    rw [h7]
    rfl
  · refine Eq.trans ?_ (Cert.KernelIdeal.Attn.final15 m c).symm
    rw [h8]
    rfl
  · refine Eq.trans ?_ (Cert.KernelIdeal.Attn.final16 m c).symm
    rw [h9]
    rfl

set_option maxHeartbeats 3200000 in
/-- Over the extended reals the closing call and its reference compute the same array. -/
theorem algebraic2 : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g
    exact hc.1 19
  · refine θ_run_mono (Cert.Reference2Ideal.Value.run m' g') fun r h c => ⟨(h c).1.trans ?_, (h c).2⟩
    refine (Cert.Reference2Ideal.Read.val_main_v106_eq (StableHlo.launchContents m' c)).trans ?_
    obtain ⟨h0, h1, h2, h3, h4, h5, h6, h7, h8, h9, h10, h11, h12, h13⟩ := hagree c
    change Cert.Reference2Ideal.Read.val_main_v106 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) = _
    rw [h0, h1, h2, h3, h4, h5, h6, h7, h8, h9, h10, h11, h12, h13, Cert.Kernel2Ideal.Post.final m c]
    funext i
    obtain ⟨b, s, k, rfl⟩ : ∃ b s k, i = ix3 b s k := ⟨i 0, i 1, i 2, eq_ix3 i⟩
    exact Cert.Reference2Ideal.Post.token_at _ _ _ _ _ _ _ _ _ _ _ _ _ _ b s k

/-- The projection call's program terminates, leaves its arguments unchanged and every semaphore counter at zero. -/
theorem frame_Kernel3 : Cert.quiescent_Kernel3 (hKernel3 := Cert.Kernel3.Gen.facts) := fun m ρ _ => Cert.Kernel3.Gen.frame m ρ

/-- So does its ideal program. -/
theorem frame_Kernel3Ideal : Cert.quiescent_Kernel3Ideal (hKernel3Ideal := Cert.Kernel3Ideal.Gen.facts) := fun m ρ _ => Cert.Kernel3Ideal.Gen.frame m ρ

set_option maxHeartbeats 1600000 in
/-- So does the projection call's reference. -/
theorem frame_Reference3Ideal : Cert.quiescent_Reference3Ideal (hReference3Ideal := Cert.Reference3Ideal.Gen.facts) := by
  intro m g _
  exact θ_run_mono (Cert.Reference3Ideal.Value.run m g) fun r h => ⟨fun c => (h c).2.2.2.2, sem_eq_zero_of_no_sems (by decide) r.2⟩

/-- The projection call's named constant: its literal is the rounded value of what its name stands for. -/
theorem preserves3 : Cert.preserves_Kernel3_Kernel3Ideal :=
  IdealRules.named_const.statement Cert.Kernel3Ideal.κ "qscale" .f32 0x3E38AA3B#32 (((Real.log 256)⁻¹ : ℝ) : EReal) rfl

set_option maxHeartbeats 3200000 in
/-- Over the extended reals the projection call and its reference compute the same four arrays. -/
theorem algebraic3 : Cert.algebraic_Kernel3Ideal_Reference3Ideal (hKernel3Ideal := Cert.Kernel3Ideal.Gen.facts) (hReference3Ideal := Cert.Reference3Ideal.Gen.facts) := by
  intro m g m' g' _ hagree
  have hk := θ_run_mono (Cert.Kernel3Ideal.Value.run_blocks m g) fun r h c => (⟨(h c).1, (h c).2.1, (h c).2.2.1, (h c).2.2.2.1, (h c).2.2.2.2.2.2⟩ : _ ∧ _ ∧ _ ∧ _ ∧ _)
  refine ⟨_, _, _, _, hk, θ_run_mono (Cert.Reference3Ideal.Value.run m' g') fun r h c => ?_⟩
  obtain ⟨h0, h1, h2, h3⟩ := hagree c
  obtain ⟨e0, e1, e2, e3, he⟩ := h c
  refine ⟨e0.trans ?_, e1.trans ?_, e2.trans ?_, e3.trans ?_, he⟩
  · refine (Cert.Reference3Ideal.Read.val_main_v161_eq (StableHlo.launchContents m' c)).trans ?_
    change Cert.Reference3Ideal.Read.val_main_v161 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
    rw [h0, h1, h2, h3]
    refine Eq.trans ?_ (Cert.Kernel3Ideal.Inproj.final6 m c).symm
    funext i
    obtain ⟨b, s, k, rfl⟩ : ∃ b s k, i = ix3 b s k := ⟨i 0, i 1, i 2, eq_ix3 i⟩
    exact Cert.Reference3Ideal.Inproj.q_at _ _ _ _ b s k
  · refine (Cert.Reference3Ideal.Read.val_main_v165_eq (StableHlo.launchContents m' c)).trans ?_
    change Cert.Reference3Ideal.Read.val_main_v165 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
    rw [h0, h1, h2, h3]
    refine Eq.trans ?_ (Cert.Kernel3Ideal.Inproj.final7 m c).symm
    funext i
    obtain ⟨b, s, k, rfl⟩ : ∃ b s k, i = ix3 b s k := ⟨i 0, i 1, i 2, eq_ix3 i⟩
    exact Cert.Reference3Ideal.Inproj.k_at _ _ _ _ b s k
  · refine (Cert.Reference3Ideal.Read.val_main_v169_eq (StableHlo.launchContents m' c)).trans ?_
    change Cert.Reference3Ideal.Read.val_main_v169 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg3)) = _
    rw [h0, h1, h3]
    refine Eq.trans ?_ (Cert.Kernel3Ideal.Inproj.final8 m c).symm
    funext i
    obtain ⟨b, s, k, rfl⟩ : ∃ b s k, i = ix3 b s k := ⟨i 0, i 1, i 2, eq_ix3 i⟩
    exact Cert.Reference3Ideal.Inproj.v_at _ _ _ b s k
  · refine (Cert.Reference3Ideal.Read.val_main_v170_eq (StableHlo.launchContents m' c)).trans ?_
    change Cert.Reference3Ideal.Read.val_main_v170 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
    rw [h0, h1, h2, h3]
    refine Eq.trans ?_ (Cert.Kernel3Ideal.Inproj.final9 m c).symm
    funext i
    obtain ⟨b, s, k, rfl⟩ : ∃ b s k, i = ix3 b s k := ⟨i 0, i 1, i 2, eq_ix3 i⟩
    exact Cert.Reference3Ideal.Inproj.b_at _ _ _ _ b s k

/-- Everything claimed, together. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  frame_Kernel, frame_KernelIdeal, frame_ReferenceIdeal, frame_Kernel2, frame_Kernel2Ideal, frame_Reference2Ideal, frame_Kernel3, frame_Kernel3Ideal, frame_Reference3Ideal,
  preserves, algebraic, trivial, algebraic2, preserves3, algebraic3⟩

end Cert.Proof

end
